-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "pi" .f32 0x40490FDB#32 ((Real.pi : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1x512x512 : Shape := ⟨4, ![16, 1, 512, 512]⟩
abbrev S_ : Shape := ⟨0, ![]⟩

class Facts : Prop where
  bcast_S_S16x1x512x512 : S_.BroadcastsInDim S16x1x512x512 (![] : Fin 0 → Fin S16x1x512x512.rank)

variable [Facts]

def fn {F : FTy → Type} [FloatOps F] (main_arg0 : FVec F S16x1x512x512 .f32) : IVec S16x1x512x512 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  main_v2
-- ==== Kernel.lean ====
abbrev S16x1x512x512 : Shape := ⟨4, ![16, 1, 512, 512]⟩
abbrev S512 : Shape := ⟨1, ![512]⟩
abbrev S512x1 : Shape := ⟨2, ![512, 1]⟩
abbrev S_ : Shape := ⟨0, ![]⟩
abbrev S64 : Shape := ⟨1, ![64]⟩
abbrev S1x64 : Shape := ⟨2, ![1, 64]⟩
abbrev S512x64 : Shape := ⟨2, ![512, 64]⟩
abbrev S252 : Shape := ⟨1, ![252]⟩
abbrev S1x1x252 : Shape := ⟨3, ![1, 1, 252]⟩
abbrev S63 : Shape := ⟨1, ![63]⟩
abbrev S1x63x1 : Shape := ⟨3, ![1, 63, 1]⟩
abbrev S4 : Shape := ⟨1, ![4]⟩
abbrev S4x1x1 : Shape := ⟨3, ![4, 1, 1]⟩
abbrev S4x63x1 : Shape := ⟨3, ![4, 63, 1]⟩
abbrev S4x63x252 : Shape := ⟨3, ![4, 63, 252]⟩
abbrev S16x10x63x252 : Shape := ⟨4, ![16, 10, 63, 252]⟩
abbrev S1x1x512x512 : Shape := ⟨4, ![1, 1, 512, 512]⟩
abbrev S1x10x63x252 : Shape := ⟨4, ![1, 10, 63, 252]⟩
abbrev S514x514 : Shape := ⟨2, ![514, 514]⟩
abbrev S640x512 : Shape := ⟨2, ![640, 512]⟩
abbrev S1x514 : Shape := ⟨2, ![1, 514]⟩
abbrev S514x1 : Shape := ⟨2, ![514, 1]⟩
abbrev S512x512 : Shape := ⟨2, ![512, 512]⟩
abbrev S66x514 : Shape := ⟨2, ![66, 514]⟩
abbrev S64x512 : Shape := ⟨2, ![64, 512]⟩
abbrev S8x8x512 : Shape := ⟨3, ![8, 8, 512]⟩
abbrev S8x512 : Shape := ⟨2, ![8, 512]⟩
abbrev S640x64 : Shape := ⟨2, ![640, 64]⟩
abbrev S10x64x64 : Shape := ⟨3, ![10, 64, 64]⟩
abbrev S10x63x63 : Shape := ⟨3, ![10, 63, 63]⟩
abbrev S1x63x63 : Shape := ⟨3, ![1, 63, 63]⟩
abbrev S63x63 : Shape := ⟨2, ![63, 63]⟩
abbrev S1x63x252 : Shape := ⟨3, ![1, 63, 252]⟩
abbrev S63x252 : Shape := ⟨2, ![63, 252]⟩
abbrev S1x1x63x252 : Shape := ⟨4, ![1, 1, 63, 252]⟩

abbrev nBuf : Space → Nat
  | .hbm => 44
  | .vmem => 8
  | .smem => 0
  | _ => 0

abbrev bufTy : (tb : Table) → Fin (tcTables nBuf tb) → BufTy
  | .hbm, ⟨0, _⟩ => ⟨S16x1x512x512, .f32⟩
  | .hbm, ⟨1, _⟩ => ⟨S512, .i32⟩
  | .hbm, ⟨2, _⟩ => ⟨S512x1, .i32⟩
  | .hbm, ⟨3, _⟩ => ⟨S_, .i32⟩
  | .hbm, ⟨4, _⟩ => ⟨S_, .i32⟩
  | .hbm, ⟨5, _⟩ => ⟨S512x1, .i32⟩
  | .hbm, ⟨6, _⟩ => ⟨S512x1, .i32⟩
  | .hbm, ⟨7, _⟩ => ⟨S512x1, .i32⟩
  | .hbm, ⟨8, _⟩ => ⟨S_, .i32⟩
  | .hbm, ⟨9, _⟩ => ⟨S512x1, .i32⟩
  | .hbm, ⟨10, _⟩ => ⟨S512x1, .i1⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S512x1, .i1⟩
  | .hbm, ⟨17, _⟩ => ⟨S_, .i32⟩
  | .hbm, ⟨18, _⟩ => ⟨S512x1, .i32⟩
  | .hbm, ⟨19, _⟩ => ⟨S512x1, .i32⟩
  | .hbm, ⟨20, _⟩ => ⟨S512x1, .i32⟩
  | .hbm, ⟨21, _⟩ => ⟨S64, .i32⟩
  | .hbm, ⟨22, _⟩ => ⟨S1x64, .i32⟩
  | .hbm, ⟨23, _⟩ => ⟨S512x64, .i32⟩
  | .hbm, ⟨24, _⟩ => ⟨S512x64, .i32⟩
  | .hbm, ⟨25, _⟩ => ⟨S512x64, .i1⟩
  | .hbm, ⟨26, _⟩ => ⟨S512x64, .f32⟩
  | .hbm, ⟨27, _⟩ => ⟨S252, .i32⟩
  | .hbm, ⟨28, _⟩ => ⟨S1x1x252, .i32⟩
  | .hbm, ⟨29, _⟩ => ⟨S63, .i32⟩
  | .hbm, ⟨30, _⟩ => ⟨S1x63x1, .i32⟩
  | .hbm, ⟨31, _⟩ => ⟨S_, .i32⟩
  | .hbm, ⟨32, _⟩ => ⟨S1x63x1, .i32⟩
  | .hbm, ⟨33, _⟩ => ⟨S1x63x1, .i32⟩
  | .hbm, ⟨34, _⟩ => ⟨S4, .i32⟩
  | .hbm, ⟨35, _⟩ => ⟨S4x1x1, .i32⟩
  | .hbm, ⟨36, _⟩ => ⟨S4x63x1, .i32⟩
  | .hbm, ⟨37, _⟩ => ⟨S4x63x1, .i32⟩
  | .hbm, ⟨38, _⟩ => ⟨S4x63x1, .i32⟩
  | .hbm, ⟨39, _⟩ => ⟨S4x63x252, .i32⟩
  | .hbm, ⟨40, _⟩ => ⟨S4x63x252, .i32⟩
  | .hbm, ⟨41, _⟩ => ⟨S4x63x252, .i1⟩
  | .hbm, ⟨42, _⟩ => ⟨S4x63x252, .f32⟩
  | .hbm, ⟨43, _⟩ => ⟨S16x10x63x252, .f32⟩
  | .local _ .vmem, ⟨0, _⟩ => ⟨S1x1x512x512, .f32⟩
  | .local _ .vmem, ⟨1, _⟩ => ⟨S1x1x512x512, .f32⟩
  | .local _ .vmem, ⟨2, _⟩ => ⟨S512x64, .f32⟩
  | .local _ .vmem, ⟨3, _⟩ => ⟨S4x63x252, .f32⟩
  | .local _ .vmem, ⟨4, _⟩ => ⟨S1x10x63x252, .f32⟩
  | .local _ .vmem, ⟨5, _⟩ => ⟨S1x10x63x252, .f32⟩
  | .local _ .vmem, ⟨6, _⟩ => ⟨S514x514, .f32⟩
  | .local _ .vmem, ⟨7, _⟩ => ⟨S640x512, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x63x252 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x10x63x252 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "pi" => some ((Real.pi : ℝ) : EReal)
  | _ => none
-- ==== ReferenceIdeal.lean ====
abbrev S16x1x512x512 : Shape := ⟨4, ![16, 1, 512, 512]⟩
abbrev S16x512x512 : Shape := ⟨3, ![16, 512, 512]⟩
abbrev S_ : Shape := ⟨0, ![]⟩
abbrev S16x514x514 : Shape := ⟨3, ![16, 514, 514]⟩
abbrev S10 : Shape := ⟨1, ![10]⟩
abbrev S1x10x1x1 : Shape := ⟨4, ![1, 10, 1, 1]⟩
abbrev S16x10x512x512 : Shape := ⟨4, ![16, 10, 512, 512]⟩
abbrev S16x10x64x8x64x8 : Shape := ⟨6, ![16, 10, 64, 8, 64, 8]⟩
abbrev S16x10x64x64 : Shape := ⟨4, ![16, 10, 64, 64]⟩
abbrev S16x10x63x63 : Shape := ⟨4, ![16, 10, 63, 63]⟩
abbrev S16x10x63x63x1 : Shape := ⟨5, ![16, 10, 63, 63, 1]⟩
abbrev S16x10x63x63x4 : Shape := ⟨5, ![16, 10, 63, 63, 4]⟩
abbrev S16x10x63x252 : Shape := ⟨4, ![16, 10, 63, 252]⟩

abbrev nBuf : Space → Nat
  | .hbm => 212
  | .vmem => 0
  | .smem => 0
  | _ => 0

abbrev hbmTy0_0 (i : Nat) : BufTy := match i % 128 with
  | 0 => ⟨S16x1x512x512, .f32⟩
  | 1 => ⟨S16x512x512, .f32⟩
  | 2 => ⟨S_, .i32⟩
  | 3 => ⟨S_, .f32⟩
  | 4 => ⟨S16x514x514, .f32⟩
  | 5 => ⟨S16x512x512, .f32⟩
  | 6 => ⟨S_, .f32⟩
  | 7 => ⟨S16x512x512, .f32⟩
  | 8 => ⟨S16x512x512, .f32⟩
  | 9 => ⟨S_, .f32⟩
  | 10 => ⟨S16x512x512, .f32⟩
  | 11 => ⟨S16x512x512, .f32⟩
  | 12 => ⟨S16x512x512, .f32⟩
  | 13 => ⟨S_, .f32⟩
  | 14 => ⟨S16x512x512, .f32⟩
  | 15 => ⟨S16x512x512, .f32⟩
  | 16 => ⟨S16x512x512, .f32⟩
  | 17 => ⟨S16x512x512, .f32⟩
  | 18 => ⟨S_, .f32⟩
  | 19 => ⟨S16x512x512, .f32⟩
  | 20 => ⟨S16x512x512, .f32⟩
  | 21 => ⟨S16x512x512, .f32⟩
  | 22 => ⟨S16x512x512, .f32⟩
  | 23 => ⟨S_, .f32⟩
  | 24 => ⟨S16x512x512, .f32⟩
  | 25 => ⟨S16x512x512, .f32⟩
  | 26 => ⟨S16x512x512, .f32⟩
  | 27 => ⟨S16x512x512, .f32⟩
  | 28 => ⟨S_, .f32⟩
  | 29 => ⟨S16x512x512, .f32⟩
  | 30 => ⟨S16x512x512, .f32⟩
  | 31 => ⟨S16x512x512, .f32⟩
  | 32 => ⟨S16x512x512, .f32⟩
  | 33 => ⟨S_, .f32⟩
  | 34 => ⟨S16x512x512, .f32⟩
  | 35 => ⟨S16x512x512, .f32⟩
  | 36 => ⟨S16x512x512, .f32⟩
  | 37 => ⟨S16x512x512, .f32⟩
  | 38 => ⟨S_, .f32⟩
  | 39 => ⟨S16x512x512, .f32⟩
  | 40 => ⟨S16x512x512, .f32⟩
  | 41 => ⟨S16x512x512, .f32⟩
  | 42 => ⟨S16x512x512, .f32⟩
  | 43 => ⟨S_, .f32⟩
  | 44 => ⟨S16x512x512, .f32⟩
  | 45 => ⟨S16x512x512, .f32⟩
  | 46 => ⟨S16x512x512, .f32⟩
  | 47 => ⟨S16x512x512, .f32⟩
  | 48 => ⟨S_, .f32⟩
  | 49 => ⟨S16x512x512, .f32⟩
  | 50 => ⟨S16x512x512, .f32⟩
  | 51 => ⟨S16x512x512, .f32⟩
  | 52 => ⟨S16x512x512, .f32⟩
  | 53 => ⟨S_, .f32⟩
  | 54 => ⟨S16x512x512, .f32⟩
  | 55 => ⟨S16x512x512, .f32⟩
  | 56 => ⟨S_, .f32⟩
  | 57 => ⟨S16x512x512, .f32⟩
  | 58 => ⟨S16x512x512, .f32⟩
  | 59 => ⟨S16x512x512, .f32⟩
  | 60 => ⟨S_, .f32⟩
  | 61 => ⟨S16x512x512, .f32⟩
  | 62 => ⟨S16x512x512, .f32⟩
  | 63 => ⟨S16x512x512, .f32⟩
  | 64 => ⟨S16x512x512, .f32⟩
  | 65 => ⟨S_, .f32⟩
  | 66 => ⟨S16x512x512, .f32⟩
  | 67 => ⟨S16x512x512, .f32⟩
  | 68 => ⟨S16x512x512, .f32⟩
  | 69 => ⟨S16x512x512, .f32⟩
  | 70 => ⟨S_, .f32⟩
  | 71 => ⟨S16x512x512, .f32⟩
  | 72 => ⟨S16x512x512, .f32⟩
  | 73 => ⟨S16x512x512, .f32⟩
  | 74 => ⟨S16x512x512, .f32⟩
  | 75 => ⟨S_, .f32⟩
  | 76 => ⟨S16x512x512, .f32⟩
  | 77 => ⟨S16x512x512, .f32⟩
  | 78 => ⟨S16x512x512, .f32⟩
  | 79 => ⟨S16x512x512, .f32⟩
  | 80 => ⟨S_, .f32⟩
  | 81 => ⟨S16x512x512, .f32⟩
  | 82 => ⟨S16x512x512, .f32⟩
  | 83 => ⟨S16x512x512, .f32⟩
  | 84 => ⟨S16x512x512, .f32⟩
  | 85 => ⟨S_, .f32⟩
  | 86 => ⟨S16x512x512, .f32⟩
  | 87 => ⟨S16x512x512, .f32⟩
  | 88 => ⟨S16x512x512, .f32⟩
  | 89 => ⟨S16x512x512, .f32⟩
  | 90 => ⟨S_, .f32⟩
  | 91 => ⟨S16x512x512, .f32⟩
  | 92 => ⟨S16x512x512, .f32⟩
  | 93 => ⟨S16x512x512, .f32⟩
  | 94 => ⟨S16x512x512, .f32⟩
  | 95 => ⟨S_, .f32⟩
  | 96 => ⟨S16x512x512, .f32⟩
  | 97 => ⟨S16x512x512, .f32⟩
  | 98 => ⟨S16x512x512, .f32⟩
  | 99 => ⟨S16x512x512, .f32⟩
  | 100 => ⟨S16x512x512, .f32⟩
  | 101 => ⟨S16x512x512, .f32⟩
  | 102 => ⟨S16x512x512, .f32⟩
  | 103 => ⟨S16x512x512, .f32⟩
  | 104 => ⟨S_, .f32⟩
  | 105 => ⟨S_, .f32⟩
  | 106 => ⟨S_, .f32⟩
  | 107 => ⟨S16x512x512, .f32⟩
  | 108 => ⟨S16x512x512, .f32⟩
  | 109 => ⟨S_, .f32⟩
  | 110 => ⟨S16x512x512, .f32⟩
  | 111 => ⟨S16x512x512, .f32⟩
  | 112 => ⟨S16x512x512, .f32⟩
  | 113 => ⟨S16x512x512, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S16x512x512, .i32⟩
  | 121 => ⟨S16x512x512, .i32⟩
  | 122 => ⟨S_, .i32⟩
  | 123 => ⟨S16x512x512, .i32⟩
  | 124 => ⟨S16x512x512, .i1⟩
  | 125 => ⟨S_, .i32⟩
  | 126 => ⟨S16x512x512, .i32⟩
  | 127 => ⟨S16x512x512, .i1⟩
  | _ => ⟨S16x1x512x512, .f32⟩

abbrev hbmTy0_1 (i : Nat) : BufTy := match i % 128 with
  | 0 => ⟨S_, .i32⟩
  | 1 => ⟨S_, .i1⟩
  | 2 => ⟨S16x512x512, .i1⟩
  | 3 => ⟨S16x512x512, .i1⟩
  | 4 => ⟨S16x512x512, .i1⟩
  | 5 => ⟨S16x512x512, .i32⟩
  | 6 => ⟨S16x512x512, .i32⟩
  | 7 => ⟨S16x512x512, .i32⟩
  | 8 => ⟨S16x512x512, .f32⟩
  | 9 => ⟨S16x512x512, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S16x512x512, .i32⟩
  | 17 => ⟨S16x512x512, .i32⟩
  | 18 => ⟨S_, .i32⟩
  | 19 => ⟨S16x512x512, .i32⟩
  | 20 => ⟨S16x512x512, .i1⟩
  | 21 => ⟨S_, .i32⟩
  | 22 => ⟨S16x512x512, .i32⟩
  | 23 => ⟨S16x512x512, .i1⟩
  | 24 => ⟨S_, .i32⟩
  | 25 => ⟨S_, .i1⟩
  | 26 => ⟨S16x512x512, .i1⟩
  | 27 => ⟨S16x512x512, .i1⟩
  | 28 => ⟨S16x512x512, .i1⟩
  | 29 => ⟨S16x512x512, .i32⟩
  | 30 => ⟨S16x512x512, .i32⟩
  | 31 => ⟨S16x512x512, .i32⟩
  | 32 => ⟨S10, .i32⟩
  | 33 => ⟨S1x10x1x1, .i32⟩
  | 34 => ⟨S16x1x512x512, .i32⟩
  | 35 => ⟨S16x10x512x512, .i32⟩
  | 36 => ⟨S16x10x512x512, .i32⟩
  | 37 => ⟨S16x10x512x512, .i1⟩
  | 38 => ⟨S16x1x512x512, .f32⟩
  | 39 => ⟨S_, .f32⟩
  | 40 => ⟨S_, .f32⟩
  | 41 => ⟨S16x10x512x512, .f32⟩
  | 42 => ⟨S16x10x512x512, .f32⟩
  | 43 => ⟨S16x10x512x512, .f32⟩
  | 44 => ⟨S16x1x512x512, .i32⟩
  | 45 => ⟨S16x10x512x512, .i32⟩
  | 46 => ⟨S16x10x512x512, .i32⟩
  | 47 => ⟨S16x10x512x512, .i1⟩
  | 48 => ⟨S16x1x512x512, .f32⟩
  | 49 => ⟨S_, .f32⟩
  | 50 => ⟨S16x1x512x512, .f32⟩
  | 51 => ⟨S16x1x512x512, .f32⟩
  | 52 => ⟨S_, .f32⟩
  | 53 => ⟨S_, .f32⟩
  | 54 => ⟨S16x10x512x512, .f32⟩
  | 55 => ⟨S16x10x512x512, .f32⟩
  | 56 => ⟨S16x10x512x512, .f32⟩
  | 57 => ⟨S16x10x512x512, .f32⟩
  | 58 => ⟨S16x10x64x8x64x8, .f32⟩
  | 59 => ⟨S_, .f32⟩
  | 60 => ⟨S16x10x64x64, .f32⟩
  | 61 => ⟨S_, .f32⟩
  | 62 => ⟨S16x10x64x64, .f32⟩
  | 63 => ⟨S16x10x64x64, .f32⟩
  | 64 => ⟨S16x10x63x63, .f32⟩
  | 65 => ⟨S16x10x63x63, .f32⟩
  | 66 => ⟨S16x10x63x63, .f32⟩
  | 67 => ⟨S16x10x63x63, .f32⟩
  | 68 => ⟨S16x10x63x63x1, .f32⟩
  | 69 => ⟨S16x10x63x63x1, .f32⟩
  | 70 => ⟨S16x10x63x63x1, .f32⟩
  | 71 => ⟨S16x10x63x63x1, .f32⟩
  | 72 => ⟨S16x10x63x63x4, .f32⟩
  | 73 => ⟨S_, .f32⟩
  | 74 => ⟨S16x10x63x63, .f32⟩
  | 75 => ⟨S16x10x63x63, .f32⟩
  | 76 => ⟨S_, .f32⟩
  | 77 => ⟨S16x10x63x63, .f32⟩
  | 78 => ⟨S16x10x63x63, .f32⟩
  | 79 => ⟨S16x10x63x63, .f32⟩
  | 80 => ⟨S16x10x63x63x1, .f32⟩
  | 81 => ⟨S16x10x63x63x4, .f32⟩
  | 82 => ⟨S16x10x63x63x4, .f32⟩
  | 83 => ⟨S16x10x63x252, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_14 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_15 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_16 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_18 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_19 : Ref sig .tc := ⟨.hbm, 104, rfl⟩
abbrev main_cst_20 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_21 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_22 : Ref sig .tc := ⟨.hbm, 114, rfl⟩
abbrev main_call1_v0 : Ref sig .tc := ⟨.hbm, 115, rfl⟩
abbrev main_call1_c : Ref sig .tc := ⟨.hbm, 116, rfl⟩
abbrev main_call1_v1 : Ref sig .tc := ⟨.hbm, 117, rfl⟩
abbrev main_call1_c_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_c_1 : Ref sig .tc := ⟨.hbm, 122, rfl⟩
abbrev main_call1_v5 : Ref sig .tc := ⟨.hbm, 123, rfl⟩
abbrev main_call1_v6 : Ref sig .tc := ⟨.hbm, 124, rfl⟩
abbrev main_call1_c_2 : Ref sig .tc := ⟨.hbm, 125, rfl⟩
abbrev main_call1_v7 : Ref sig .tc := ⟨.hbm, 126, rfl⟩
abbrev main_call1_v8 : Ref sig .tc := ⟨.hbm, 127, rfl⟩
abbrev main_call1_c_3 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_v12 : Ref sig .tc := ⟨.hbm, 132, rfl⟩
abbrev main_call1_v13 : Ref sig .tc := ⟨.hbm, 133, rfl⟩
abbrev main_call1_v14 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_23 : Ref sig .tc := ⟨.hbm, 138, rfl⟩
abbrev main_call2_v0 : Ref sig .tc := ⟨.hbm, 139, rfl⟩
abbrev main_call2_c : Ref sig .tc := ⟨.hbm, 140, rfl⟩
abbrev main_call2_v1 : Ref sig .tc := ⟨.hbm, 141, rfl⟩
abbrev main_call2_c_0 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_c_1 : Ref sig .tc := ⟨.hbm, 146, rfl⟩
abbrev main_call2_v5 : Ref sig .tc := ⟨.hbm, 147, rfl⟩
abbrev main_call2_v6 : Ref sig .tc := ⟨.hbm, 148, rfl⟩
abbrev main_call2_c_2 : Ref sig .tc := ⟨.hbm, 149, rfl⟩
abbrev main_call2_v7 : Ref sig .tc := ⟨.hbm, 150, rfl⟩
abbrev main_call2_v8 : Ref sig .tc := ⟨.hbm, 151, rfl⟩
abbrev main_call2_c_3 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_v12 : Ref sig .tc := ⟨.hbm, 156, rfl⟩
abbrev main_call2_v13 : Ref sig .tc := ⟨.hbm, 157, rfl⟩
abbrev main_call2_v14 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_cst_24 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_cst_25 : Ref sig .tc := ⟨.hbm, 177, rfl⟩
abbrev main_v105 : Ref sig .tc := ⟨.hbm, 178, rfl⟩
abbrev main_v106 : Ref sig .tc := ⟨.hbm, 179, rfl⟩
abbrev main_cst_26 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_cst_27 : Ref sig .tc := ⟨.hbm, 187, rfl⟩
abbrev main_v110 : Ref sig .tc := ⟨.hbm, 188, rfl⟩
abbrev main_cst_28 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_cst_29 : Ref sig .tc := ⟨.hbm, 201, rfl⟩
abbrev main_v122 : Ref sig .tc := ⟨.hbm, 202, rfl⟩
abbrev main_v123 : Ref sig .tc := ⟨.hbm, 203, rfl⟩
abbrev main_cst_30 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩

abbrev nD : Nat := 1
abbrev τ : Topo := Topo.v7x

variable {F : FTy → Type} [FloatOps F]
-- ==== Proof.Border.lean ====
module

public import Idealize.ShloMosaic.Lib.Ring

@[expose] public section

/-! # Five stores that fill a bordered square

The kernel keeps one picture with a border of zeros around it: 514 rows of 514 numbers. At the first grid point it
fills that buffer by five stores: the top row, the bottom row, the left column, the right column and the inside, 512 by
512. Here: stores with those places reach every element. -/

noncomputable section

namespace Cert.Border

open Idealize.ShloMosaic

variable {Val : EltTy → Type} {e : EltTy}

/-- Where a store into a two-dimensional buffer goes: its first row and column, its height and width, its two strides. -/
def place {s0 s1 : ℕ} (p : View.Piece Val ⟨2, ![s0, s1]⟩ e) : ℕ × ℕ × ℕ × ℕ × ℕ × ℕ :=
  (p.1.off 0, p.1.off 1, p.1.size 0, p.1.size 1, p.1.stride 0, p.1.stride 1)

/-- A store of unit strides reaches the elements between its first row and column and its last. -/
theorem mem_of_place {s0 s1 : ℕ} (p : View.Piece Val ⟨2, ![s0, s1]⟩ e) {r q h w : ℕ} (hp : place p = (r, q, h, w, 1, 1))
    (y : Shape.Idx ⟨2, ![s0, s1]⟩) (h0 : r ≤ (y 0).val ∧ (y 0).val < r + h) (h1 : q ≤ (y 1).val ∧ (y 1).val < q + w) :
    y ∈ p.1.set := by
  simp only [place, Prod.mk.injEq] at hp
  obtain ⟨a, b, c, d, k, l⟩ := hp
  refine p.1.mem_set.mpr fun x => ?_
  match x with
  | ⟨0, _⟩ => exact ⟨(y 0).val - r, by
      show _ < p.1.size 0
      omega, by
      show (y 0).val = p.1.off 0 + p.1.stride 0 * _
      rw [a, k]; omega⟩
  | ⟨1, _⟩ => exact ⟨(y 1).val - q, by
      show _ < p.1.size 1
      omega, by
      show (y 1).val = p.1.off 1 + p.1.stride 1 * _
      rw [b, l]; omega⟩

/-- Five stores at the border's four sides and the inside reach every element of the 514 by 514 buffer. -/
theorem cover (L : List (View.Piece Val ⟨2, ![514, 514]⟩ e))
    (h : L.map place = [(1, 1, 512, 512, 1, 1), (0, 513, 514, 1, 1, 1), (0, 0, 514, 1, 1, 1),
      (513, 0, 1, 514, 1, 1), (0, 0, 1, 514, 1, 1)]) (y : Shape.Idx ⟨2, ![514, 514]⟩) :
    ∃ p ∈ L, y ∈ p.1.set := by
  have hy0 : (y 0).val < 514 := (y 0).isLt
  have hy1 : (y 1).val < 514 := (y 1).isLt
  have find : ∀ r q hh w, (r, q, hh, w, 1, 1) ∈ L.map place → (r ≤ (y 0).val ∧ (y 0).val < r + hh) →
      (q ≤ (y 1).val ∧ (y 1).val < q + w) → ∃ p ∈ L, y ∈ p.1.set := fun r q hh w hm h0 h1 => by
    obtain ⟨p, hp, he⟩ := List.mem_map.mp hm
    exact ⟨p, hp, mem_of_place p he y h0 h1⟩
  rw [h] at find
  by_cases c0 : (y 0).val = 0
  · exact find 0 0 1 514 (by simp) (by omega) (by omega)
  by_cases c1 : (y 0).val = 513
  · exact find 513 0 1 514 (by simp) (by omega) (by omega)
  by_cases c2 : (y 1).val = 0
  · exact find 0 0 514 1 (by simp) (by omega) (by omega)
  by_cases c3 : (y 1).val = 513
  · exact find 0 513 514 1 (by simp) (by omega) (by omega)
  exact find 1 1 512 512 (by simp) (by omega) (by omega)

end Cert.Border

end
-- ==== Proof.IdealBody.lean ====
module

public import proofs.«01_k».proof.Proof.Gen.KernelIdeal.Frame.RunB
public import proofs.«01_k».proof.Proof.Border
public import Idealize.ShloMosaic.Lib.Claim

@[expose] public section

/-! # The kernel over exact arithmetic: the launch and the frame

The kernel runs at 16 grid points, one picture each. At the first it also writes the border of the scratch buffer that
holds the bordered picture; at the others it finds the border as the point before left it. `left` says what a point
leaves in the output's buffer and in that scratch buffer, given what the scratch held before; `outs` follows the points.
From these the run (`run_main`) and the frame. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run at the first grid point: the stores it makes, with their proof. -/
abbrev runA (c : Dev nD) (t : Fin cfg0.N) (h : t.val % 16 = 0) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    ((hcond0_0 t).mpr h) (iblk m c 0 t) (iblk m c 1 t) (iblk m c 2 t)

/-- The body's run at a later grid point, the bordered picture's buffer holding `xs` before it. -/
abbrev runB (c : Dev nD) (t : Fin cfg0.N) (h : ¬t.val % 16 = 0) (xs : Vec F S514x514 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (fun hc => h ((hcond0_0 t).mp hc)) (iblk m c 0 t) (iblk m c 1 t) (iblk m c 2 t) xs

/-- At the first point the ten stores into the output's buffer reach all of it, -/
theorem coverA (c : Dev nD) (t : Fin cfg0.N) (h : t.val % 16 = 0) (y : S1x10x63x252.Idx) :
    ∃ pc ∈ (runA m c t h).1, y ∈ pc.1.set :=
  View.cover_of_tiledL (runA m c t h).1 S1x1x63x252.size (by sl_kernel_rfl) y

/-- as do those of a later point, -/
theorem coverB (c : Dev nD) (t : Fin cfg0.N) (h : ¬t.val % 16 = 0) (xs : Vec F S514x514 .f32) (y : S1x10x63x252.Idx) :
    ∃ pc ∈ (runB m c t h xs).1, y ∈ pc.1.set :=
  View.cover_of_tiledL (runB m c t h xs).1 S1x1x63x252.size (by sl_kernel_rfl) y

/-- and the first point's five stores into the bordered picture's buffer reach all of that. -/
theorem cover_pad (c : Dev nD) (t : Fin cfg0.N) (h : t.val % 16 = 0) (y : S514x514.Idx) :
    ∃ pc ∈ (runA m c t h).2.1, y ∈ pc.1.set :=
  Border.cover (runA m c t h).2.1 (by sl_kernel_rfl) y

/-- What point `t` leaves in the output's buffer and in the bordered picture's, the latter holding `xs` before it. -/
def left (c : Dev nD) (t : Fin cfg0.N) (xs : Vec F S514x514 .f32) : Vec F S1x10x63x252 .f32 × Vec F S514x514 .f32 :=
  if h : t.val % 16 = 0 then
    (VO0_3.read (Elt F) (VO0_3.writes (Elt F) VO0_3.junk (runA m c t h).1),
      VS0_0.read (Elt F) (VS0_0.writes (Elt F) VS0_0.junk (runA m c t h).2.1))
  else
    (VO0_3.read (Elt F) (VO0_3.writes (Elt F) VO0_3.junk (runB m c t h xs).1),
      scM0_0.view.read (Elt F) (scM0_0.view.writes (Elt F) ((Memref.isWhole_whole cc0_scratch0).unread xs) (runB m c t h xs).2.1))

/-- What the buffers hold after point `n`: each point starts from the bordered picture the point before left. -/
def outs (c : Dev nD) : (n : ℕ) → n < cfg0.N → Vec F S1x10x63x252 .f32 × Vec F S514x514 .f32
  | 0, hn => left m c ⟨0, hn⟩ (VS0_0.read (Elt F) VS0_0.junk)
  | n + 1, hn => left m c ⟨n + 1, hn⟩ (outs c n (Nat.lt_of_succ_lt hn)).2

/-- Before the first point every scratch buffer holds anything; before a later one the bordered picture's holds what the
    point before left there. -/
def Inv (c : Dev nD) : (n : ℕ) → n ≤ cfg0.N → sProp 𝕄
  | 0, _ => Pipeline.ΦA spec0 c
  | n + 1, hn => iprop(iprop(owns (c : Thread nD τ) scM0_0 fullShare ((outs m c n hn).2)
      ∗ (∃ d, owns (c : Thread nD τ) scM0_1 fullShare d)) ∗ (∃ r, prngReg c r))

/-- The pipeline's proof data: the arrays as the region finds them, each input's buffer at its block after every point,
    the output's at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outs m c t.val t.isLt).1
  Φ t := Inv m c t.val (Nat.le_of_lt_succ t.isLt)
  q _ := fullShare
  owed _ := 0

/-- The arrays that the data names are those of the launch. -/
theorem A_eq (c : Dev nD) (w : Fin cfg0.W) : (dats m 0 c).A w = V m c (Pipeline.arrRef spec0 w) := by
  dsimp only [dats]

/-- The data's invariant before point `t` is `Inv` at `t`. -/
theorem Inv_castSucc (c : Dev nD) (t : Fin cfg0.N) :
    (dats m 0 c).Φ t.castSucc = Inv m c t.val (Nat.le_of_lt t.isLt) := by
  dsimp only [dats]; exact Pipeline.Dat.Φ_castSucc (Inv m c) t

/-- After a point the picture's buffer holds its block, -/
theorem after_0 (c : Dev nD) (t : Fin cfg0.N) : (dats m 0 c).after 0 t = iblk m c 0 t := by dsimp only [dats]
/-- the pooling matrix's its block, -/
theorem after_1 (c : Dev nD) (t : Fin cfg0.N) : (dats m 0 c).after 1 t = iblk m c 1 t := by dsimp only [dats]
/-- the spreading matrices' theirs, -/
theorem after_2 (c : Dev nD) (t : Fin cfg0.N) : (dats m 0 c).after 2 t = iblk m c 2 t := by dsimp only [dats]
/-- and the output's what the point computed. -/
theorem after_3 (c : Dev nD) (t : Fin cfg0.N) : (dats m 0 c).after 3 t = (outs m c t.val t.isLt).1 := by dsimp only [dats]

/-- Before a point the picture's buffer holds its block, -/
theorem before_0 (c : Dev nD) (t : Fin cfg0.N) (d) : (dats m 0 c).before 0 t d = iblk m c 0 t :=
  before0_0_of m (dats m 0 c) (A_eq m c 0) (after_0 m c) t d
/-- the pooling matrix's its block, -/
theorem before_1 (c : Dev nD) (t : Fin cfg0.N) (d) : (dats m 0 c).before 1 t d = iblk m c 1 t :=
  before0_1_of m (dats m 0 c) (A_eq m c 1) (after_1 m c) t d
/-- and the spreading matrices' theirs. -/
theorem before_2 (c : Dev nD) (t : Fin cfg0.N) (d) : (dats m 0 c).before 2 t d = iblk m c 2 t :=
  before0_2_of m (dats m 0 c) (A_eq m c 2) (after_2 m c) t d

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- `left` at the first point, -/
theorem left_first (c : Dev nD) (t : Fin cfg0.N) (h : t.val % 16 = 0) (xs : Vec F S514x514 .f32) :
    left m c t xs = (VO0_3.read (Elt F) (VO0_3.writes (Elt F) VO0_3.junk (runA m c t h).1),
      VS0_0.read (Elt F) (VS0_0.writes (Elt F) VS0_0.junk (runA m c t h).2.1)) := by
  unfold left; rw [dif_pos h]

/-- and at a later one. -/
theorem left_later (c : Dev nD) (t : Fin cfg0.N) (h : ¬t.val % 16 = 0) (xs : Vec F S514x514 .f32) :
    left m c t xs = (VO0_3.read (Elt F) (VO0_3.writes (Elt F) VO0_3.junk (runB m c t h xs).1),
      scM0_0.view.read (Elt F) (scM0_0.view.writes (Elt F) ((Memref.isWhole_whole cc0_scratch0).unread xs) (runB m c t h xs).2.1)) := by
  unfold left; rw [dif_neg h]

/-- `outs` at the first point. -/
theorem outs_first (c : Dev nD) (t : Fin cfg0.N) (h : t.val % 16 = 0) :
    outs m c t.val t.isLt = (VO0_3.read (Elt F) (VO0_3.writes (Elt F) VO0_3.junk (runA m c t h).1),
      VS0_0.read (Elt F) (VS0_0.writes (Elt F) VS0_0.junk (runA m c t h).2.1)) := by
  obtain ⟨n, hn⟩ := t
  cases n with
  | zero => exact left_first m c ⟨0, hn⟩ h _
  | succ n => exact left_first m c ⟨n + 1, hn⟩ h _

/-- `outs` at a later point. -/
theorem outs_later (c : Dev nD) (t : Fin cfg0.N) (h : ¬t.val % 16 = 0) (xs : Vec F S514x514 .f32)
    (hxs : xs = (outs m c (t.val - 1) (Nat.lt_of_le_of_lt (Nat.sub_le _ _) t.isLt)).2) :
    outs m c t.val t.isLt = (VO0_3.read (Elt F) (VO0_3.writes (Elt F) VO0_3.junk (runB m c t h xs).1),
      scM0_0.view.read (Elt F) (scM0_0.view.writes (Elt F) ((Memref.isWhole_whole cc0_scratch0).unread xs) (runB m c t h xs).2.1)) := by
  subst hxs
  obtain ⟨n, hn⟩ := t
  cases n with
  | zero => exact absurd (Nat.zero_mod _) h
  | succ n => exact left_later m c ⟨n + 1, hn⟩ h _

/-- After a first point the invariant is: the border scratch holds what the last point left, and the histogram rows hold anything. -/
theorem Inv_pos (c : Dev nD) (n : ℕ) (h : n ≤ cfg0.N) (hz : n ≠ 0) :
    Inv m c n h = iprop(iprop(owns (c : Thread nD τ) scM0_0 fullShare ((outs m c (n - 1) (by omega)).2)
      ∗ (∃ d, owns (c : Thread nD τ) scM0_1 fullShare d)) ∗ (∃ r, prngReg c r)) := by
  cases n with
  | zero => exact absurd rfl hz
  | succ n => rfl

set_option maxHeartbeats 3200000 in
/-- The body at any point: the run of its case applies to the buffers it is called with and leaves them as `outs` says. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).owesAt () t.succ = (dats m 0 c).owesAt () t.castSucc from rfl,
    after_0, after_1, after_2, after_3]
  rw [show (dats m 0 c).Φ t.succ = iprop(iprop(owns (c : Thread nD τ) scM0_0 fullShare ((outs m c t.val t.isLt).2)
    ∗ (∃ d, owns (c : Thread nD τ) scM0_1 fullShare d)) ∗ (∃ r, prngReg c r)) from rfl]
  have hN : t.val < 16 := lt_of_lt_of_eq t.isLt (show cfg0.N = 16 from N_0)
  by_cases h : t.val % 16 = 0
  · have hz : t.val = 0 := by omega
    rw [Inv_castSucc m c t, show Inv m c t.val (Nat.le_of_lt t.isLt) = Pipeline.ΦA spec0 c by
      simp only [hz]; rfl, PhiA0_eq, outs_first m c t h]
    dsimp only
    iintro ⟨⟨⟨HS0, HS1⟩, Hg⟩, Ho, ⟨%d0, H0⟩, ⟨%d1, H1⟩, ⟨%d2, H2⟩, ⟨%d3, H3⟩⟩
    iapply ((runA m c t h).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%fT1, HS1⟩⟩
    isplitl [HS0 HS1 Hg]
    · isplitl [HS0 HS1]
      · isplitl [HS0]
        · unfold owns; iexists _; isplitr
          swap; · iexact HS0
          ipureintro; exact View.read_writes_of_cover _ _ _ _ _ (cover_pad m c t h)
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA m c t h)
  · have hz : t.val ≠ 0 := fun e => h (by rw [e])
    rw [Inv_castSucc m c t, Inv_pos m c _ _ hz, outs_later m c t h _ rfl]
    dsimp only
    iintro ⟨⟨⟨HS0, HS1⟩, Hg⟩, Ho, ⟨%d0, H0⟩, ⟨%d1, H1⟩, ⟨%d2, H2⟩, ⟨%d3, H3⟩⟩
    iapply ((runB m c t h _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, HS0, ⟨%fT1, HS1⟩⟩
    isplitl [HS0 HS1 Hg]
    · isplitl [HS0 HS1]
      · isplitl [HS0]
        · unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB m c t h _)

/-- The library's body obligation, at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound m c t) rfl .rfl fun _ => .rfl

/-- What the launch hands the region is the invariant before the first point, -/
theorem enter (c : Dev nD) : Pipeline.ΦA spec0 c ⊢ (dats m 0 c).Φ 0 := by
  rw [show (dats m 0 c).Φ 0 = Pipeline.ΦA spec0 c from rfl]
  try exact Idealize.SL.BI.Entails.refl _

/-- and after the last point the invariant gives it back. -/
theorem leave (c : Dev nD) : (dats m 0 c).Φ (Fin.last cfg0.N) ⊢ Pipeline.ΦA spec0 c := by
  have hz : (Fin.last cfg0.N).val ≠ 0 := by rw [Fin.val_last]; have : cfg0.N = 16 := N_0; omega
  rw [show (dats m 0 c).Φ (Fin.last cfg0.N) = Inv m c (Fin.last cfg0.N).val (Nat.le_of_lt_succ (Fin.last cfg0.N).isLt) from rfl,
    Inv_pos m c _ _ hz, PhiA0_eq]
  iintro ⟨⟨HS0, HS1⟩, Hg⟩
  isplitl [HS0 HS1]
  · isplitl [HS0]
    · iexists _; iexact HS0
    iexact HS1
  iexact Hg

set_option backward.isDefEq.respectTransparency.types false in
/-- The launch: every fair run ends, with the pipeline's arrays at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The whole run ends, and every array holds what the points left in it. -/
theorem run_main : θ_run defs (onTc (τ := τ) (main (F := F))) (s₀ m ρ) (Pipeline.FramePost cfgs (dats m) 0 (V m)) :=
  (θ_run defs _ _).mono (fun _ h => h.1) (run_quiescent m ρ)

/-- The frame: the argument ends as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ))
    ((θ_run defs _ _).mono (fun _ h => h.2) (run_quiescent m ρ))

end Cert.KernelIdeal.Body

end
-- ==== Proof.Block.lean ====
module

public import proofs.«01_k».proof.Proof.IdealBody

@[expose] public section

/-! # What one grid point computes, in plain vector operations

The body of one picture in a few definitions: the gradients of a slab of 64 rows, the histogram rows of a slab and an
orientation, the cell pooling and block normalization, and the interleaving product. `sums` and `outs` list the body's
stores with these as payloads; the theorems of this module say that the runs' stores are those. -/

set_option maxRecDepth 16384

noncomputable section

namespace Cert.KernelIdeal.Block

open Cert.KernelIdeal Cert.KernelIdeal.Gen
open Idealize.ShloMosaic Idealize.ShloMosaic.TcCoe Idealize.ShloMosaic.Tactic

variable {F : FTy → Type} [FloatOps F] [Named F]

/-- The constants of the body over a slab. -/
def two : FVec F S64x512 .f32 := broadcast S64x512 (Scalar.ofBits .f32 0x40000000#32)
/-- One everywhere, -/
def one : FVec F S64x512 .f32 := broadcast S64x512 (Scalar.ofBits .f32 0x3F800000#32)
/-- and zero. -/
def zero : FVec F S64x512 .f32 := broadcast S64x512 (Scalar.ofBits .f32 0x00000000#32)

/-- The horizontal gradient of a slab of 66 bordered rows, -/
def gradX (p : Vec F S66x514 .f32) : FVec F S64x512 .f32 :=
  subf (addf (subf (addf (subf (extractStridedSlice S64x512 ![0, 0] p slices_S66x514_o0_0_S64x512)
    (extractStridedSlice S64x512 ![0, 2] p slices_S66x514_o0_2_S64x512))
    (mulf two (extractStridedSlice S64x512 ![1, 0] p slices_S66x514_o1_0_S64x512)))
    (mulf two (extractStridedSlice S64x512 ![1, 2] p slices_S66x514_o1_2_S64x512)))
    (extractStridedSlice S64x512 ![2, 0] p slices_S66x514_o2_0_S64x512))
    (extractStridedSlice S64x512 ![2, 2] p slices_S66x514_o2_2_S64x512)

/-- and the vertical one. -/
def gradY (p : Vec F S66x514 .f32) : FVec F S64x512 .f32 :=
  subf (subf (subf (addf (addf (extractStridedSlice S64x512 ![0, 0] p slices_S66x514_o0_0_S64x512)
    (mulf two (extractStridedSlice S64x512 ![0, 1] p slices_S66x514_o0_1_S64x512)))
    (extractStridedSlice S64x512 ![0, 2] p slices_S66x514_o0_2_S64x512))
    (extractStridedSlice S64x512 ![2, 0] p slices_S66x514_o2_0_S64x512))
    (mulf two (extractStridedSlice S64x512 ![2, 1] p slices_S66x514_o2_1_S64x512)))
    (extractStridedSlice S64x512 ![2, 2] p slices_S66x514_o2_2_S64x512)

/-- The gradient's length, -/
def magnitude (p : Vec F S66x514 .f32) : FVec F S64x512 .f32 :=
  sqrt (addf (mulf (gradX p) (gradX p)) (mulf (gradY p) (gradY p)))

/-- its direction in tenths of half a turn, -/
def turn (p : Vec F S66x514 .f32) : FVec F S64x512 .f32 :=
  mulf (divf (atan2 (gradX p) (gradY p)) (broadcast S64x512 (Named.named κ "pi" 0x40490FDB#32)))
    (broadcast S64x512 (Scalar.ofBits .f32 0x41200000#32))

/-- whether that is a whole number, -/
def whole (p : Vec F S66x514 .f32) : IVec S64x512 1 := cmpf .oeq (turn p) (floor (turn p))

/-- the direction rounded down, negative ones moved up by ten, -/
def lifted (p : Vec F S66x514 .f32) : IVec S64x512 32 :=
  select (cmpi .slt (fptosi 32 (floor (turn p))) (broadcast S64x512 0#32))
    (addi (fptosi 32 (floor (turn p))) (broadcast S64x512 10#32)) (fptosi 32 (floor (turn p)))

/-- and ten sent to zero: the lower orientation. -/
def lower (p : Vec F S66x514 .f32) : IVec S64x512 32 :=
  select (cmpi .eq (lifted p) (broadcast S64x512 10#32)) (broadcast S64x512 0#32) (lifted p)

/-- What a pixel adds to its lower orientation, -/
def toLower (p : Vec F S66x514 .f32) : FVec F S64x512 .f32 :=
  select (whole p) (addf (magnitude p) (subf one (magnitude p))) (magnitude p)

/-- and to the one after it. -/
def toUpper (p : Vec F S66x514 .f32) : FVec F S64x512 .f32 :=
  select (whole p) zero (subf one (magnitude p))

/-- What each pixel of a slab adds to orientation `o`: `o` itself and the one before it are compared with the lower
    orientation. -/
def votes (p : Vec F S66x514 .f32) (o : Fin 10) : FVec F S64x512 .f32 :=
  addf (select (cmpi .eq (lower p) (broadcast S64x512 (BitVec.ofNat 32 o.val))) (toLower p) zero)
    (select (cmpi .eq (lower p) (broadcast S64x512 (BitVec.ofNat 32 ((o.val + 9) % 10)))) (toUpper p) zero)

/-- The votes summed over each run of eight rows. -/
def rows (p : Vec F S66x514 .f32) (o : Fin 10) : FVec F S8x512 .f32 :=
  shapeCast S8x512 (multiReduction .add [1] S8x512 (shapeCast S8x8x512 (votes p o) shapeCasts_S64x512_S8x8x512)
    0x00000000#32 reduces_S8x8x512_S8x512 (.inl rfl) rfl) shapeCasts_S8x512_S8x512

/-- A slab lies inside the bordered picture. -/
theorem slab_inb (s : Fin 8) : ∀ a, (![64 * s.val, 0] : Fin 2 → Nat) a + S66x514.size a ≤ S514x514.size a := by
  revert s; decide

/-- The 66 rows of the bordered picture around slab `s`. -/
def slab (P : Vec F S514x514 .f32) (s : Fin 8) : Vec F S66x514 .f32 :=
  View.ld P (Rect.unit ![64 * s.val, 0] S66x514.size (slab_inb s))

/-- A store of eight rows lies inside the histogram. -/
theorem sums_inb (k : Fin 80) : ∀ a, (![64 * (k.val % 10) + 8 * (k.val / 10), 0] : Fin 2 → Nat) a + S8x512.size a ≤ S640x512.size a := by
  revert k; decide

/-- The store of slab `k / 10` and orientation `k % 10` into the histogram rows' buffer. -/
def sumsPiece (P : Vec F S514x514 .f32) (k : Fin 80) : View.Piece (Elt F) S640x512 .f32 :=
  ⟨Rect.unit ![64 * (k.val % 10) + 8 * (k.val / 10), 0] S8x512.size (sums_inb k),
    rows (slab P ⟨k.val / 10, by omega⟩) ⟨k.val % 10, by omega⟩⟩

/-- All eighty of them, the last first. -/
def sums (P : Vec F S514x514 .f32) : List (View.Piece (Elt F) S640x512 .f32) :=
  (List.finRange 80).reverse.map (sumsPiece P)

/-- At a later point the stores into the histogram rows' buffer are `sums` of the bordered picture it has just written. -/
theorem sumsB (c : Dev nD) (arg1 : Memref sig .tc .vmem S1x1x512x512 .f32) (harg1 : arg1.IsWhole)
    (arg5 : Memref sig .tc .vmem S514x514 .f32) (harg5 : arg5.IsWhole) (x0 : Vec F S1x1x512x512 .f32) (xs0 : Vec F S514x514 .f32) :
    kernelRun0_B.sl.HS1_80 c arg1 harg1 arg5 harg5 x0 xs0
      = sums (arg5.view.read (Elt F) (arg5.view.writes (Elt F) (harg5.unread xs0) (kernelRun0_B.sl.HS0_1 c arg1 harg1 x0))) := by
  sl_kernel_rfl

/-- At the first point likewise. -/
theorem sumsA (c : Dev nD) (arg1 : Memref sig .tc .vmem S1x1x512x512 .f32) (harg1 : arg1.IsWhole)
    (arg5 : Memref sig .tc .vmem S514x514 .f32) (x0 : Vec F S1x1x512x512 .f32) :
    kernelRun0_A.sl.HS1_80 c arg1 harg1 arg5 x0
      = sums (arg5.view.read (Elt F) (arg5.view.writes (Elt F) arg5.view.junk (kernelRun0_A.sl.HS0_5 c arg1 harg1 x0))) := by
  sl_kernel_rfl

/-- The pooled histogram: the rows' sums summed over runs of eight columns, and the mean taken. -/
def cells (R : Vec F S640x512 .f32) (W : Vec F S512x64 .f32) : FVec F S10x64x64 .f32 :=
  mulf (shapeCast S10x64x64 (matmul dot_S640x512_S512x64_S640x64_1_0_0_1_n_n (some .fp32) R
    (shapeCast S512x64 W shapeCasts_S512x64_S512x64) (constant S640x64 .f32 0x00000000#32)) shapeCasts_S640x64_S10x64x64)
    (broadcast S10x64x64 (Scalar.ofBits .f32 0x3C800000#32))

/-- The four cells of every block. -/
def corner (h : FVec F S10x64x64 .f32) : Fin 4 → FVec F S10x63x63 .f32
  | 0 => extractStridedSlice S10x63x63 ![0, 0, 0] h slices_S10x64x64_o0_0_0_S10x63x63
  | 1 => extractStridedSlice S10x63x63 ![0, 0, 1] h slices_S10x64x64_o0_0_1_S10x63x63
  | 2 => extractStridedSlice S10x63x63 ![0, 1, 0] h slices_S10x64x64_o0_1_0_S10x63x63
  | 3 => extractStridedSlice S10x63x63 ![0, 1, 1] h slices_S10x64x64_o0_1_1_S10x63x63

/-- Their sum, -/
def blockSum (h : FVec F S10x64x64 .f32) : FVec F S10x63x63 .f32 :=
  addf (addf (addf (corner h 0) (corner h 1)) (corner h 2)) (corner h 3)

/-- the factor that normalizes a block, -/
def factor (h : FVec F S10x64x64 .f32) : FVec F S10x63x63 .f32 :=
  divf (broadcast S10x63x63 (Scalar.ofBits .f32 0x3F800000#32))
    (sqrt (addf (mulf (blockSum h) (blockSum h)) (broadcast S10x63x63 (Scalar.ofBits .f32 0x2EDBE6FF#32))))

/-- the normalized cells, -/
def normal (h : FVec F S10x64x64 .f32) (q : Fin 4) : FVec F S10x63x63 .f32 := mulf (corner h q) (factor h)

/-- and the two parts they are split into. -/
def high (h : FVec F S10x64x64 .f32) (q : Fin 4) : FVec F S10x63x63 .f32 :=
  extf .f32 (truncf .bf16 (normal h q) bitsLt_bf16_f32) bitsLt_bf16_f32
/-- What the first part leaves. -/
def low (h : FVec F S10x64x64 .f32) (q : Fin 4) : FVec F S10x63x63 .f32 := subf (normal h q) (high h q)

/-- An orientation's plane lies inside the ten. -/
theorem plane_slices (o : Fin 10) : S10x63x63.Slices ![o.val, 0, 0] S1x63x63 := by revert o; decide

/-- The plane of orientation `o`. -/
def plane (y : FVec F S10x63x63 .f32) (o : Fin 10) : FVec F S63x63 .f32 :=
  shapeCast S63x63 (extractStridedSlice S1x63x63 ![o.val, 0, 0] y (plane_slices o)) shapeCasts_S1x63x63_S63x63

/-- A spreading matrix lies inside the four. -/
theorem spread_inb (q : Fin 4) : ∀ a, (![q.val, 0, 0] : Fin 3 → Nat) a + S1x63x252.size a ≤ S4x63x252.size a := by
  revert q; decide

/-- The matrix that puts corner `q` at its columns. -/
def spread (E : Vec F S4x63x252 .f32) (q : Fin 4) : FVec F S63x252 .f32 :=
  shapeCast S63x252 (View.ld E (Rect.unit ![q.val, 0, 0] S1x63x252.size (spread_inb q))) shapeCasts_S1x63x252_S63x252

/-- One product. -/
def placed (y : FVec F S10x63x63 .f32) (E : Vec F S4x63x252 .f32) (o : Fin 10) (q : Fin 4) : FVec F S63x252 .f32 :=
  matmul dot_S63x63_S63x252_S63x252_1_0_0_1_n_n none (plane y o) (spread E q) (constant S63x252 .f32 0x00000000#32)

/-- The output's plane of orientation `o`. -/
def outPlane (h : FVec F S10x64x64 .f32) (E : Vec F S4x63x252 .f32) (o : Fin 10) : FVec F S1x1x63x252 .f32 :=
  shapeCast S1x1x63x252 (addf (addf (addf (addf (addf (addf (addf (placed (high h 0) E o 0) (placed (high h 1) E o 1))
    (placed (high h 2) E o 2)) (placed (high h 3) E o 3)) (placed (low h 0) E o 0)) (placed (low h 1) E o 1))
    (placed (low h 2) E o 2)) (placed (low h 3) E o 3)) shapeCasts_S63x252_S1x1x63x252

/-- An orientation's plane lies inside the output's block. -/
theorem out_inb (o : Fin 10) : ∀ a, (![0, o.val, 0, 0] : Fin 4 → Nat) a + S1x1x63x252.size a ≤ S1x10x63x252.size a := by
  revert o; decide

/-- Its store, -/
def outPiece (h : FVec F S10x64x64 .f32) (E : Vec F S4x63x252 .f32) (o : Fin 10) : View.Piece (Elt F) S1x10x63x252 .f32 :=
  ⟨Rect.unit ![0, o.val, 0, 0] S1x1x63x252.size (out_inb o), outPlane h E o⟩

/-- and all ten of them, the last first. -/
def outs (h : FVec F S10x64x64 .f32) (E : Vec F S4x63x252 .f32) : List (View.Piece (Elt F) S1x10x63x252 .f32) :=
  (List.finRange 10).reverse.map (outPiece h E)

/-- The rectangle that reads the histogram lies inside it, -/
theorem whole_inb : ∀ a, (![0, 0] : Fin 2 → Nat) a + S640x512.size a ≤ S640x512.size a := by decide
/-- and so does the one that reads the pooling matrix. -/
theorem pool_inb : ∀ a, (![0, 0] : Fin 2 → Nat) a + S512x64.size a ≤ S512x64.size a := by decide

section Runs

variable (m : (ℓ : Loc nD τ sig) → Buf (Elt F) ℓ)

/-- At the first point the stores into the output's buffer, as the run lists them: -/
theorem outsA_raw (c : Dev nD) (t : Fin cfg0.N) (h : t.val % 16 = 0) :
    (Body.runA m c t h).1
      = outs (cells (scM0_1.view.readCov (kernelRun0_A.sl.HS1_80 c (ms0_0 t) (hs0_0 t) scM0_0 (iblk m c 0 t)) (Rect.unit ![0, 0] S640x512.size whole_inb).toLoadRect)
          (View.ld ((ms0_1 t).view.read (Elt F) ((hs0_1 t).unread (iblk m c 1 t))) (Rect.unit ![0, 0] S512x64.size pool_inb)))
        ((ms0_2 t).view.read (Elt F) ((hs0_2 t).unread (iblk m c 2 t))) := by
  sl_kernel_rfl

/-- and at a later one. -/
theorem outsB_raw (c : Dev nD) (t : Fin cfg0.N) (h : ¬t.val % 16 = 0) (xs : Vec F S514x514 .f32) :
    (Body.runB m c t h xs).1
      = outs (cells (scM0_1.view.readCov (kernelRun0_B.sl.HS1_80 c (ms0_0 t) (hs0_0 t) scM0_0 (Memref.isWhole_whole _) (iblk m c 0 t) xs) (Rect.unit ![0, 0] S640x512.size whole_inb).toLoadRect)
          (View.ld ((ms0_1 t).view.read (Elt F) ((hs0_1 t).unread (iblk m c 1 t))) (Rect.unit ![0, 0] S512x64.size pool_inb)))
        ((ms0_2 t).view.read (Elt F) ((hs0_2 t).unread (iblk m c 2 t))) := by
  sl_kernel_rfl

/-- The first point's stores into the bordered picture's buffer. -/
theorem padA_raw (c : Dev nD) (t : Fin cfg0.N) (h : t.val % 16 = 0) :
    (Body.runA m c t h).2.1 = kernelRun0_A.sl.HS0_5 c (ms0_0 t) (hs0_0 t) (iblk m c 0 t) := by
  sl_kernel_rfl

/-- A later point's. -/
theorem padB_raw (c : Dev nD) (t : Fin cfg0.N) (h : ¬t.val % 16 = 0) (xs : Vec F S514x514 .f32) :
    (Body.runB m c t h xs).2.1 = kernelRun0_B.sl.HS0_1 c (ms0_0 t) (hs0_0 t) (iblk m c 0 t) := by
  sl_kernel_rfl

end Runs

end Cert.KernelIdeal.Block

end
-- ==== Proof.Bordered.lean ====
module

public import proofs.«01_k».proof.Proof.Block
public import Idealize.ShloMosaic.Lib.Pointwise
public import Idealize.ShloMosaic.Lib.Pipeline.ValueKit

@[expose] public section

/-! # The bordered picture

What the scratch buffer of the bordered picture holds after every grid point: the point's picture, with a border of zeros.
The first point writes all of it; a later one finds the zeros of the border where the point before left them. -/

set_option maxRecDepth 16384

noncomputable section

namespace Cert.KernelIdeal.Block

open Cert.KernelIdeal Cert.KernelIdeal.Gen
open Idealize.ShloMosaic Idealize.ShloMosaic.TcCoe Idealize.ShloMosaic.Tactic

/-- The picture with a border of zeros. -/
def bordered (x : Vec Ideal S1x1x512x512 .f32) : Vec Ideal S514x514 .f32 := fun y =>
  if h : 1 ≤ (y 0).val ∧ (y 0).val < 513 ∧ 1 ≤ (y 1).val ∧ (y 1).val < 513 then
    x (ix4 0 0 ⟨(y 0).val - 1, by omega⟩ ⟨(y 1).val - 1, by omega⟩)
  else (0 : EReal)

/-- The rectangle that reads the picture lies inside it. -/
theorem image_inb : ∀ a, (![0, 0, 0, 0] : Fin 4 → Nat) a + S1x1x512x512.size a ≤ S1x1x512x512.size a := by decide

/-- The picture's pixels as they are stored. -/
def pixels (x : Vec Ideal S1x1x512x512 .f32) : FVec Ideal S512x512 .f32 :=
  shapeCast S512x512 (extf .f32 (truncf .bf16 (shapeCast S512x512
    (View.ld x (Rect.unit ![0, 0, 0, 0] S1x1x512x512.size image_inb)) shapeCasts_S1x1x512x512_S512x512) bitsLt_bf16_f32) bitsLt_bf16_f32)
    shapeCasts_S512x512_S512x512

/-- Stored pixels are the picture's. -/
theorem pixels_apply (x : Vec Ideal S1x1x512x512 .f32) (i j : Fin 512) : pixels x (ix2 i j) = x (ix4 0 0 i j) := by
  pointwise [pixels]

/-- A pixel of the picture lies one further down and right in the bordered one. -/
theorem pixels_at (x : Vec Ideal S1x1x512x512 .f32) (y : S514x514.Idx) (i : S512x512.Idx)
    (h0 : (y 0).val = 1 + (i 0).val) (h1 : (y 1).val = 1 + (i 1).val) : pixels x i = bordered x y := by
  idx_vars i
  have hi0 := i0.isLt
  have hi1 := i1.isLt
  change (y 0).val = 1 + i0.val at h0
  change (y 1).val = 1 + i1.val at h1
  unfold bordered
  rw [dif_pos ⟨by omega, by omega, by omega, by omega⟩, pixels_apply]
  congr 1
  funext a
  match a with
  | ⟨0, _⟩ => rfl
  | ⟨1, _⟩ => rfl
  | ⟨2, _⟩ => exact Fin.ext (show i0.val = (y 0).val - 1 by omega)
  | ⟨3, _⟩ => exact Fin.ext (show i1.val = (y 1).val - 1 by omega)

/-- The border is zero. -/
theorem bordered_off (x : Vec Ideal S1x1x512x512 .f32) (y : S514x514.Idx)
    (h : (y 0).val = 0 ∨ (y 0).val = 513 ∨ (y 1).val = 0 ∨ (y 1).val = 513) : bordered x y = (0 : EReal) := by
  unfold bordered
  rw [dif_neg (by omega)]

/-- The picture lies inside the border, -/
theorem inner_inb : ∀ a, (![1, 1] : Fin 2 → Nat) a + S512x512.size a ≤ S514x514.size a := by decide

variable (m : (ℓ : Loc nD τ sig) → Buf (Elt Ideal) ℓ)

/-- The one store of a later point. -/
theorem padB (c : Dev nD) (t : Fin cfg0.N) (h : ¬t.val % 16 = 0) (xs : Vec Ideal S514x514 .f32) :
    (Body.runB m c t h xs).2.1
      = [⟨Rect.unit ![1, 1] S512x512.size inner_inb, pixels ((ms0_0 t).view.read (Elt Ideal) ((hs0_0 t).unread (iblk m c 0 t)))⟩] := by
  sl_kernel_rfl

/-- as does a column -/
theorem col_inb (k : Fin 514) : ∀ a, (![0, k.val] : Fin 2 → Nat) a + S514x1.size a ≤ S514x514.size a := by
  intro a; match a with
  | ⟨0, _⟩ => exact Nat.le_refl _
  | ⟨1, _⟩ => exact k.isLt
/-- and a row. -/
theorem row_inb (k : Fin 514) : ∀ a, (![k.val, 0] : Fin 2 → Nat) a + S1x514.size a ≤ S514x514.size a := by
  intro a; match a with
  | ⟨0, _⟩ => exact Nat.le_trans (Nat.le_of_eq (Nat.add_comm _ _)) (by have := k.isLt; show 1 + k.val ≤ 514; omega)
  | ⟨1, _⟩ => exact Nat.le_refl _

/-- A column and a row of zeros. -/
def zeroCol : FVec Ideal S514x1 .f32 := shapeCast S514x1 (broadcast S514x1 (Scalar.ofBits (F := Ideal) .f32 0x00000000#32)) shapeCasts_S514x1_S514x1
/-- A row of zeros. -/
def zeroRow : FVec Ideal S1x514 .f32 := shapeCast S1x514 (broadcast S1x514 (Scalar.ofBits (F := Ideal) .f32 0x00000000#32)) shapeCasts_S1x514_S1x514

/-- Every entry of the column is zero, -/
theorem zeroCol_apply (j : S514x1.Idx) : zeroCol j = (0 : EReal) := by
  idx_vars j; pointwise [zeroCol]
/-- and every entry of the row. -/
theorem zeroRow_apply (j : S1x514.Idx) : zeroRow j = (0 : EReal) := by
  idx_vars j; pointwise [zeroRow]

/-- The five stores of the first point. -/
theorem padA (c : Dev nD) (t : Fin cfg0.N) (h : t.val % 16 = 0) :
    (Body.runA m c t h).2.1
      = [⟨Rect.unit ![1, 1] S512x512.size inner_inb, pixels ((ms0_0 t).view.read (Elt Ideal) ((hs0_0 t).unread (iblk m c 0 t)))⟩,
        ⟨Rect.unit ![0, 513] S514x1.size (col_inb 513), zeroCol⟩, ⟨Rect.unit ![0, 0] S514x1.size (col_inb 0), zeroCol⟩,
        ⟨Rect.unit ![513, 0] S1x514.size (row_inb 513), zeroRow⟩, ⟨Rect.unit ![0, 0] S1x514.size (row_inb 0), zeroRow⟩] := by
  sl_kernel_rfl

/-- A rectangle's entry lies at its offset and its own index in the array. -/
theorem emb0 {d off size : Fin 2 → Nat} (inb) (j : (Rect.unit (s := ⟨2, d⟩) off size inb).shape.Idx) (a : Fin 2) :
    ((Rect.unit (s := ⟨2, d⟩) off size inb).emb j a).val = off a + (j a).val := ValueKit.rect_emb_unit_val (s := ⟨2, d⟩) off size inb j a

/-- After the first point the buffer holds the bordered picture, -/
theorem canon_padA (c : Dev nD) (t : Fin cfg0.N) (h : t.val % 16 = 0) :
    View.canon (Body.runA m c t h).2.1 = bordered (iblk m c 0 t) := by
  funext y
  refine View.canon_apply_of_pieces (bordered (iblk m c 0 t)) _ ?_ y (Body.cover_pad m c t h y)
  rw [padA, (hs0_0 t).read_unread]
  intro p hp
  simp only [List.mem_cons, List.not_mem_nil, or_false] at hp
  rcases hp with rfl | rfl | rfl | rfl | rfl
  · exact fun x => pixels_at _ _ x (emb0 inner_inb x 0) (emb0 inner_inb x 1)
  · intro x
    exact (zeroCol_apply x).trans (bordered_off _ _ (.inr (.inr (.inr ((emb0 (col_inb 513) x 1).trans (by have : (x 1).val < 1 := (x 1).isLt; show 513 + (x 1).val = 513; omega)))))).symm
  · intro x
    exact (zeroCol_apply x).trans (bordered_off _ _ (.inr (.inr (.inl ((emb0 (col_inb 0) x 1).trans (by have : (x 1).val < 1 := (x 1).isLt; show 0 + (x 1).val = 0; omega)))))).symm
  · intro x
    exact (zeroRow_apply x).trans (bordered_off _ _ (.inr (.inl ((emb0 (row_inb 513) x 0).trans (by have : (x 0).val < 1 := (x 0).isLt; show 513 + (x 0).val = 513; omega))))).symm
  · intro x
    exact (zeroRow_apply x).trans (bordered_off _ _ (.inl ((emb0 (row_inb 0) x 0).trans (by have : (x 0).val < 1 := (x 0).isLt; show 0 + (x 0).val = 0; omega)))).symm

/-- and after a later one, when a bordered picture was there before. -/
theorem read_padB (c : Dev nD) (t : Fin cfg0.N) (h : ¬t.val % 16 = 0) (x' : Vec Ideal S1x1x512x512 .f32) :
    scM0_0.view.read (Elt Ideal) (scM0_0.view.writes (Elt Ideal) ((Memref.isWhole_whole cc0_scratch0).unread (bordered x'))
      (Body.runB m c t h (bordered x')).2.1) = bordered (iblk m c 0 t) := by
  rw [padB, (hs0_0 t).read_unread]
  funext y
  by_cases hy : y ∈ (Rect.unit ![1, 1] S512x512.size inner_inb : Rect S514x514).set
  · obtain ⟨x, rfl⟩ := LoadRect.exists_idx_of_mem _ hy
    refine (View.read_writes_cons_emb _ _ _ _ [] x).trans ?_
    exact pixels_at _ _ x (emb0 inner_inb x 0) (emb0 inner_inb x 1)
  · have hy' : y ∉ Finset.univ.map (Rect.unit ![1, 1] S512x512.size inner_inb : Rect S514x514).emb := by rwa [Rect.map_emb_univ]
    rw [View.writes_cons, View.read_slice_write_of_not_mem _ _ _ _ hy', View.writes_nil, Memref.IsWhole.read_unread]
    have h0 : (y 0).val < 514 := (y 0).isLt
    have h1 : (y 1).val < 514 := (y 1).isLt
    have hn : ¬(1 ≤ (y 0).val ∧ (y 0).val < 513 ∧ 1 ≤ (y 1).val ∧ (y 1).val < 513) := fun ⟨a, b, d, e⟩ =>
      hy (Rect.mem_set_unit.mpr fun k => match k with
        | ⟨0, _⟩ => ⟨a, b⟩
        | ⟨1, _⟩ => ⟨d, e⟩)
    rw [bordered_off x' y (by omega), bordered_off _ y (by omega)]

end Cert.KernelIdeal.Block

end
-- ==== Proof.Result.lean ====
module

public import proofs.«01_k».proof.Proof.Bordered

@[expose] public section

/-! # What every grid point leaves in the output's buffer

The histogram rows' buffer after its eighty stores (`histogram`), the output's buffer after its ten (`picture`), and, by
induction on the grid points, what both buffers hold after each of them. -/

set_option maxRecDepth 16384

noncomputable section

namespace Cert.KernelIdeal.Block

open Cert.KernelIdeal Cert.KernelIdeal.Gen
open Idealize.ShloMosaic Idealize.ShloMosaic.TcCoe Idealize.ShloMosaic.Tactic

/-- The histogram rows' buffer: row `64 o + 8 s + r` is row `r` of slab `s` and orientation `o`. -/
def histogram (P : Vec Ideal S514x514 .f32) : Vec Ideal S640x512 .f32 := fun y =>
  rows (slab P ⟨(y 0).val % 64 / 8, by omega⟩) ⟨(y 0).val / 64, by have : (y 0).val < 640 := (y 0).isLt; omega⟩
    (ix2 ⟨(y 0).val % 8, by omega⟩ (y 1))

/-- The sums of slab `s` and orientation `o` are the histogram's rows from `64 o + 8 s` on. -/
theorem histogram_at (P : Vec Ideal S514x514 .f32) (y : S640x512.Idx) (s : Fin 8) (o : Fin 10) (x : S8x512.Idx)
    (h0 : (y 0).val = 64 * o.val + 8 * s.val + (x 0).val) (h1 : (y 1).val = (x 1).val) :
    rows (slab P s) o x = histogram P y := by
  have hx : (x 0).val < 8 := (x 0).isLt
  have hs := s.isLt
  have ho := o.isLt
  have es : s = ⟨(y 0).val % 64 / 8, by omega⟩ := Fin.ext (by show s.val = (y 0).val % 64 / 8; omega)
  have eo : o = ⟨(y 0).val / 64, by omega⟩ := Fin.ext (by show o.val = (y 0).val / 64; omega)
  have ex : x = ix2 ⟨(y 0).val % 8, by omega⟩ (y 1) := by
    funext a
    match a with
    | ⟨0, _⟩ => exact Fin.ext (show (x 0).val = (y 0).val % 8 by omega)
    | ⟨1, _⟩ => exact Fin.ext h1.symm
  unfold histogram
  rw [← es, ← eo]
  exact congrArg _ ex

/-- The eighty stores leave it, whatever the buffer held. -/
theorem read_sums (P : Vec Ideal S514x514 .f32) :
    scM0_1.view.readCov (sums P) (Rect.unit ![0, 0] S640x512.size whole_inb).toLoadRect = histogram P := by
  have hc : ∀ y : S640x512.Idx, ∃ p ∈ sums P, y ∈ p.1.set := fun y => by
    have h0 : (y 0).val < 640 := (y 0).isLt
    refine ⟨_, List.mem_map.mpr ⟨⟨10 * ((y 0).val % 64 / 8) + (y 0).val / 64, by omega⟩, List.mem_reverse.mpr (List.mem_finRange _), rfl⟩, ?_⟩
    refine (Rect.mem_set_unit (inb := sums_inb _)).mpr fun a => ?_
    match a with
    | ⟨0, _⟩ =>
      show 64 * ((10 * ((y 0).val % 64 / 8) + (y 0).val / 64) % 10) + 8 * ((10 * ((y 0).val % 64 / 8) + (y 0).val / 64) / 10) ≤ (y 0).val
        ∧ (y 0).val < 64 * ((10 * ((y 0).val % 64 / 8) + (y 0).val / 64) % 10) + 8 * ((10 * ((y 0).val % 64 / 8) + (y 0).val / 64) / 10) + 8
      omega
    | ⟨1, _⟩ => exact ⟨Nat.zero_le _, by show (y 1).val < 0 + 512; have : (y 1).val < 512 := (y 1).isLt; omega⟩
  have hk : View.canon (sums P) = histogram P := funext fun y => by
    refine View.canon_apply_of_pieces (histogram P) (sums P) ?_ y (hc y)
    intro p hp
    obtain ⟨k, -, rfl⟩ := List.mem_map.mp hp
    intro x
    refine histogram_at P _ _ _ x ?_ ?_
    · exact emb0 (sums_inb k) x 0
    · exact (emb0 (sums_inb k) x 1).trans (Nat.zero_add _)
  rw [View.readCov_eq_canon_ld _ _ _ hc, hk]
  exact View.ld_unit_zero (by decide) _ _

/-- The output's buffer: plane `o` is the output's plane of orientation `o`. -/
def planes (h : FVec Ideal S10x64x64 .f32) (E : Vec Ideal S4x63x252 .f32) : Vec Ideal S1x10x63x252 .f32 := fun y =>
  outPlane h E (y 1) (ix4 0 0 (y 2) (y 3))

/-- The ten stores leave the ten planes in the output's buffer. -/
theorem canon_outs (h : FVec Ideal S10x64x64 .f32) (E : Vec Ideal S4x63x252 .f32) : View.canon (outs h E) = planes h E := by
  funext y
  refine View.canon_apply_of_pieces (planes h E) (outs h E) ?_ y ?_
  · intro p hp
    obtain ⟨k, -, rfl⟩ := List.mem_map.mp hp
    intro x
    have e : ∀ a, ((Rect.unit ![0, k.val, 0, 0] S1x1x63x252.size (out_inb k) : Rect S1x10x63x252).emb x a).val = (![0, k.val, 0, 0] : Fin 4 → ℕ) a + (x a).val :=
      fun a => ValueKit.rect_emb_unit_val (s := S1x10x63x252) _ _ (out_inb k) x a
    have x0 : (x 0).val < 1 := (x 0).isLt
    have x1 : (x 1).val < 1 := (x 1).isLt
    have hk : (Rect.unit ![0, k.val, 0, 0] S1x1x63x252.size (out_inb k) : Rect S1x10x63x252).emb x 1 = k :=
      Fin.ext ((e 1).trans (by show k.val + (x 1).val = k.val; omega))
    have hx : ix4 0 0 ((Rect.unit ![0, k.val, 0, 0] S1x1x63x252.size (out_inb k) : Rect S1x10x63x252).emb x 2)
        ((Rect.unit ![0, k.val, 0, 0] S1x1x63x252.size (out_inb k) : Rect S1x10x63x252).emb x 3) = x := by
      funext a
      match a with
      | ⟨0, _⟩ => exact Fin.ext (by show 0 = (x 0).val; omega)
      | ⟨1, _⟩ => exact Fin.ext (by show 0 = (x 1).val; omega)
      | ⟨2, _⟩ => exact Fin.ext ((e 2).trans (Nat.zero_add _))
      | ⟨3, _⟩ => exact Fin.ext ((e 3).trans (Nat.zero_add _))
    show outPlane h E k x = outPlane h E _ _
    exact (congrArg₂ (outPlane h E) hk hx).symm
  · refine ⟨_, List.mem_map.mpr ⟨y 1, List.mem_reverse.mpr (List.mem_finRange _), rfl⟩, (Rect.mem_set_unit (inb := out_inb _)).mpr fun a => ?_⟩
    match a with
    | ⟨0, _⟩ => exact ⟨Nat.zero_le _, by show (y 0).val < 0 + 1; have : (y 0).val < 1 := (y 0).isLt; omega⟩
    | ⟨1, _⟩ => exact ⟨Nat.le_refl _, Nat.lt_succ_self _⟩
    | ⟨2, _⟩ => exact ⟨Nat.zero_le _, by show (y 2).val < 0 + 63; have : (y 2).val < 63 := (y 2).isLt; omega⟩
    | ⟨3, _⟩ => exact ⟨Nat.zero_le _, by show (y 3).val < 0 + 252; have : (y 3).val < 252 := (y 3).isLt; omega⟩

/-- What a point computes of its picture, the pooling matrix and the spreading matrices. -/
def picture (x : Vec Ideal S1x1x512x512 .f32) (W : Vec Ideal S512x64 .f32) (E : Vec Ideal S4x63x252 .f32) : Vec Ideal S1x10x63x252 .f32 :=
  planes (cells (histogram (bordered x)) W) E

variable (m : (ℓ : Loc nD τ sig) → Buf (Elt Ideal) ℓ)

/-- At the first point, -/
theorem outsA (c : Dev nD) (t : Fin cfg0.N) (h : t.val % 16 = 0) :
    VO0_3.read (Elt Ideal) (VO0_3.writes (Elt Ideal) VO0_3.junk (Body.runA m c t h).1)
      = picture (iblk m c 0 t) (iblk m c 1 t) (iblk m c 2 t) := by
  rw [View.read_writes_junk_eq_canon, outsA_raw, canon_outs, (hs0_1 t).read_unread, (hs0_2 t).read_unread, sumsA, read_sums,
    View.read_writes_junk_eq_canon, ← padA_raw m c t h, canon_padA, View.ld_unit_zero (by decide)]
  rfl

/-- and at a later one. -/
theorem outsB (c : Dev nD) (t : Fin cfg0.N) (h : ¬t.val % 16 = 0) (x' : Vec Ideal S1x1x512x512 .f32) :
    VO0_3.read (Elt Ideal) (VO0_3.writes (Elt Ideal) VO0_3.junk (Body.runB m c t h (bordered x')).1)
      = picture (iblk m c 0 t) (iblk m c 1 t) (iblk m c 2 t) := by
  rw [View.read_writes_junk_eq_canon, outsB_raw, canon_outs, (hs0_1 t).read_unread, (hs0_2 t).read_unread, sumsB, read_sums,
    ← padB_raw m c t h (bordered x'), read_padB, View.ld_unit_zero (by decide)]
  rfl

/-- After every point the output's buffer holds what the point computes, and the scratch the point's bordered picture. -/
theorem outs_eq (c : Dev nD) : ∀ (n : ℕ) (hn : n < cfg0.N),
    Body.outs m c n hn = (picture (iblk m c 0 ⟨n, hn⟩) (iblk m c 1 ⟨n, hn⟩) (iblk m c 2 ⟨n, hn⟩), bordered (iblk m c 0 ⟨n, hn⟩))
  | 0, hn => by
    have e := Body.outs_first m c ⟨0, hn⟩ (Nat.zero_mod _)
    rw [outsA, View.read_writes_junk_eq_canon, canon_padA] at e
    exact e
  | n + 1, hn => by
    have hN : n + 1 < 16 := lt_of_lt_of_eq hn (show cfg0.N = 16 from N_0)
    have h : ¬(n + 1) % 16 = 0 := by omega
    have e := Body.outs_later m c ⟨n + 1, hn⟩ h (bordered (iblk m c 0 ⟨n, Nat.lt_of_succ_lt hn⟩))
      (by show _ = (Body.outs m c n _).2; rw [outs_eq c n])
    rw [outsB, read_padB] at e
    exact e

end Cert.KernelIdeal.Block

end
-- ==== Proof.Arrays.lean ====
module

public import proofs.«01_k».proof.Proof.Result
public import Idealize.ShloMosaic.Lib.StableHlo.ReadAt
public import Idealize.ShloMosaic.Lib.Pipeline.Value

@[expose] public section

/-! # What the result array holds after the run

The matrices the host prepares, the blocks the windows stage, and the array the ten planes of every point make up. -/

set_option maxRecDepth 16384

noncomputable section

namespace Cert.KernelIdeal.Block

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

/-- A comparison of two small numbers, as a float: one where they are equal. -/
theorem indicator {a b : ℕ} (ha : a < 2 ^ 32) (hb : b < 2 ^ 32) :
    (FloatOps.uitofp (F := Ideal) .f32 (IntOp.cmpi .eq (BitVec.ofNat 32 a) (BitVec.ofNat 32 b)) : EReal) = if a = b then (1 : EReal) else 0 := by
  show (((IntOp.cmpi .eq (BitVec.ofNat 32 a) (BitVec.ofNat 32 b)).toNat : ℝ) : EReal) = _
  have e : (BitVec.ofNat 32 a = BitVec.ofNat 32 b) ↔ a = b := by
    refine ⟨fun h => ?_, congrArg _⟩
    have := congrArg BitVec.toNat h
    rwa [BitVec.toNat_ofNat, BitVec.toNat_ofNat, Nat.mod_eq_of_lt ha, Nat.mod_eq_of_lt hb] at this
  by_cases h : a = b
  · subst h; simp [IntOp.cmpi]
  · simp [IntOp.cmpi, h, e]

/-- The host's quotient by eight, rounded down. -/
theorem quotient : ∀ w : Fin 512,
    Scalar.select
      (IntOp.andi
        (IntOp.cmpi CmpIPredicate.ne
          (if BitVec.ofNat 32 w.val = 0 then (0 : BitVec 32) else if (BitVec.ofNat 32 w.val).msb = true then -1 else 1)
          (if (8#32 : BitVec 32) = 0 then 0 else if BitVec.msb 8#32 = true then -1 else 1))
        (IntOp.cmpi CmpIPredicate.ne (IntOp.remsi ArithUnit.host (BitVec.ofNat 32 w.val) 8#32) 0#32))
      (IntOp.subi (IntOp.divsi ArithUnit.host (BitVec.ofNat 32 w.val) 8#32) 1#32)
      (IntOp.divsi ArithUnit.host (BitVec.ofNat 32 w.val) 8#32) = BitVec.ofNat 32 (w.val / 8) := by
  decide +kernel

/-- The pooling matrix: column `j` of the cells takes the picture's columns `8 j … 8 j + 7`. -/
theorem pool_at (c : Dev nD) (w : Fin 512) (j : Fin 64) :
    (V m c main_v8 : Vec Ideal S512x64 .f32) (ix2 w j) = if w.val / 8 = j.val then (1 : EReal) else 0 := by
  unfold V
  after_reads_at
  refine (congrArg (fun x : BitVec 32 => FloatOps.uitofp (F := Ideal) .f32 (IntOp.cmpi .eq x (BitVec.ofNat 32 j.val))) (quotient w)).trans ?_
  exact indicator (by omega) (by omega)

/-- The spreading matrices: corner `q` of block `k` goes to column `4 k + q`. -/
theorem spread_at (c : Dev nD) (q : Fin 4) (k : Fin 63) (j : Fin 252) :
    (V m c main_v23 : Vec Ideal S4x63x252 .f32) (ix3 q k j) = if j.val = 4 * k.val + q.val then (1 : EReal) else 0 := by
  unfold V
  after_reads_at
  have e : IntOp.addi (IntOp.muli (4#32) (BitVec.ofNat 32 k.val)) (BitVec.ofNat 32 q.val) = BitVec.ofNat 32 (4 * k.val + q.val) := by
    show 4#32 * BitVec.ofNat 32 k.val + BitVec.ofNat 32 q.val = _
    rw [BitVec.ofNat_add, BitVec.ofNat_mul]
  rw [e]
  exact indicator (by omega) (by omega)

/-! ## The windows' blocks -/

/-- At grid point `t` the picture's block is number `t`, -/
theorem places0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
/-- the pooling matrix's is always the first, -/
theorem places1 : ∀ t : Fin cfg0.N, win0_1.index t (0 : Fin 2) = 0 ∧ win0_1.index t (1 : Fin 2) = 0 :=
  (by decide +kernel : ∀ t : Fin grid0.N, _)
/-- as is the spreading matrices', -/
theorem places2 : ∀ t : Fin cfg0.N, win0_2.index t (0 : Fin 3) = 0 ∧ win0_2.index t (1 : Fin 3) = 0 ∧ win0_2.index t (2 : Fin 3) = 0 :=
  (by decide +kernel : ∀ t : Fin grid0.N, _)
/-- and the output's is number `t`. -/
theorem places3 : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)

/-- Picture `n` of a batch. -/
def image (x : Vec Ideal S16x1x512x512 .f32) (n : Fin 16) : Vec Ideal S1x1x512x512 .f32 := fun y => x (ix4 n 0 (y 2) (y 3))

/-- The picture staged at point `t` is the batch's picture `t`. -/
theorem block0 (c : Dev nD) (t : Fin cfg0.N) :
    (iblk m c 0 t : Vec Ideal S1x1x512x512 .f32) = image (m ((c : Thread nD τ).loc main_arg0)) (t.cast N_0) := by
  obtain ⟨e0, e1, e2, e3⟩ := places0 t
  funext y
  show V m c main_arg0 (((cfg0.win 0).blk t).view.emb y) = _
  rw [V_main_arg0]
  refine congrArg (m ((c : Thread nD τ).loc main_arg0)) ?_
  have y0 : (y 0).val < 1 := (y 0).isLt
  have y1 : (y 1).val < 1 := (y 1).isLt
  funext a
  match a with
  | ⟨0, _⟩ => exact Fin.ext (show win0_0.index t (0 : Fin 4) * 1 + 1 * (y 0).val = t.val by omega)
  | ⟨1, _⟩ => exact Fin.ext (show win0_0.index t (1 : Fin 4) * 1 + 1 * (y 1).val = 0 by omega)
  | ⟨2, _⟩ => exact Fin.ext (show win0_0.index t (2 : Fin 4) * 512 + 1 * (y 2).val = (y 2).val by omega)
  | ⟨3, _⟩ => exact Fin.ext (show win0_0.index t (3 : Fin 4) * 512 + 1 * (y 3).val = (y 3).val by omega)

/-- The pooling matrix: pixel `i` belongs to cell `i / 8`. -/
def poolM : Vec Ideal S512x64 .f32 := fun y => if (y 0).val / 8 = (y 1).val then (1 : EReal) else 0
/-- The spreading matrices: matrix `q` sends block `k` to column `4 k + q`. -/
def spreadM : Vec Ideal S4x63x252 .f32 := fun y => if (y 2).val = 4 * (y 1).val + (y 0).val then (1 : EReal) else 0

/-- At every grid point the second input's block is the pooling matrix, -/
theorem block1 (c : Dev nD) (t : Fin cfg0.N) : (iblk m c 1 t : Vec Ideal S512x64 .f32) = poolM := by
  obtain ⟨e0, e1⟩ := places1 t
  funext y
  show V m c main_v8 (((cfg0.win 1).blk t).view.emb y) = _
  have e : ((cfg0.win 1).blk t).view.emb y = ix2 (y 0) (y 1) := by
    funext a
    match a with
    | ⟨0, _⟩ => exact Fin.ext (show win0_1.index t (0 : Fin 2) * 512 + 1 * (y 0).val = (y 0).val by omega)
    | ⟨1, _⟩ => exact Fin.ext (show win0_1.index t (1 : Fin 2) * 64 + 1 * (y 1).val = (y 1).val by omega)
  rw [e]
  exact pool_at m c (y 0) (y 1)

/-- and the third input's is the spreading matrices. -/
theorem block2 (c : Dev nD) (t : Fin cfg0.N) : (iblk m c 2 t : Vec Ideal S4x63x252 .f32) = spreadM := by
  obtain ⟨e0, e1, e2⟩ := places2 t
  funext y
  show V m c main_v23 (((cfg0.win 2).blk t).view.emb y) = _
  have e : ((cfg0.win 2).blk t).view.emb y = ix3 (y 0) (y 1) (y 2) := by
    funext a
    match a with
    | ⟨0, _⟩ => exact Fin.ext (show win0_2.index t (0 : Fin 3) * 4 + 1 * (y 0).val = (y 0).val by omega)
    | ⟨1, _⟩ => exact Fin.ext (show win0_2.index t (1 : Fin 3) * 63 + 1 * (y 1).val = (y 1).val by omega)
    | ⟨2, _⟩ => exact Fin.ext (show win0_2.index t (2 : Fin 3) * 252 + 1 * (y 2).val = (y 2).val by omega)
  rw [e]
  exact spread_at m c (y 0) (y 1) (y 2)

/-! ## The array after the run -/

/-- The kernel's result on a batch, picture by picture. -/
def result (x : Vec Ideal S16x1x512x512 .f32) : Vec Ideal S16x10x63x252 .f32 := fun y =>
  picture (image x (y 0)) poolM spreadM (ix4 0 (y 1) (y 2) (y 3))

/-- A point's block of the array lies at its picture. -/
theorem mem_block3 (t : Fin cfg0.N) (i : S16x10x63x252.Idx) (h : (i 0).val = t.val) : i ∈ ((cfg0.win 3).blk t).view.set := by
  obtain ⟨e0, e1, e2, e3⟩ := places3 t
  show i ∈ ((View.whole main_v24).slice (win0_3.rect t)).set
  rw [View.set_slice_whole, Rect.mem_set_unit]
  have i1 : (i 1).val < 10 := (i 1).isLt
  have i2 : (i 2).val < 63 := (i 2).isLt
  have i3 : (i 3).val < 252 := (i 3).isLt
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 10 ≤ (i 1).val ∧ (i 1).val < win0_3.index t (1 : Fin 4) * 10 + 10; omega
  | ⟨2, _⟩ => show win0_3.index t (2 : Fin 4) * 63 ≤ (i 2).val ∧ (i 2).val < win0_3.index t (2 : Fin 4) * 63 + 63; omega
  | ⟨3, _⟩ => show win0_3.index t (3 : Fin 4) * 252 ≤ (i 3).val ∧ (i 3).val < win0_3.index t (3 : Fin 4) * 252 + 252; omega

/-- What point `t` writes back is the result's picture `t`. -/
theorem flushed_eq (c : Dev nD) (t : Fin cfg0.N) :
    (Body.dats m 0 c).flushed 3 t = ((cfg0.win 3).blk t).view.read (Elt Ideal) (result (m ((c : Thread nD τ).loc main_arg0))) := by
  obtain ⟨e0, e1, e2, e3⟩ := places3 t
  show (cfg0.win 3).cut (grid0.coords t) ((Body.dats m 0 c).after 3 t) = _
  rw [Body.after_3, outs_eq, block0, block1, block2]
  funext y
  show picture (image _ (t.cast N_0)) poolM spreadM ((cfg0.win 3).xinj (grid0.coords t) y) = result _ (((cfg0.win 3).blk t).view.emb y)
  have y0 : (y 0).val < 1 := (y 0).isLt
  have h0 : (((cfg0.win 3).blk t).view.emb y) 0 = t.cast N_0 :=
    Fin.ext (show win0_3.index t (0 : Fin 4) * 1 + 1 * (y 0).val = t.val by omega)
  have hy : (cfg0.win 3).xinj (grid0.coords t) y = ix4 0 ((((cfg0.win 3).blk t).view.emb y) 1)
      ((((cfg0.win 3).blk t).view.emb y) 2) ((((cfg0.win 3).blk t).view.emb y) 3) := by
    funext a
    match a with
    | ⟨0, _⟩ => exact Fin.ext (show (y 0).val = 0 by omega)
    | ⟨1, _⟩ => exact Fin.ext (show (y 1).val = win0_3.index t (1 : Fin 4) * 10 + 1 * (y 1).val by omega)
    | ⟨2, _⟩ => exact Fin.ext (show (y 2).val = win0_3.index t (2 : Fin 4) * 63 + 1 * (y 2).val by omega)
    | ⟨3, _⟩ => exact Fin.ext (show (y 3).val = win0_3.index t (3 : Fin 4) * 252 + 1 * (y 3).val by omega)
  unfold result
  rw [h0]
  exact congrArg _ hy

/-- The run leaves the result in the result array and the argument as launched. -/
theorem run (ρ : Dev nD → PrngReg) : θ_run defs (onTc (τ := τ) (main (F := Ideal))) ⟨m, fun _ => 0, ρ⟩ fun r => ∀ c : Dev nD,
      r.2.mem ((c : Thread nD τ).loc main_v24) = result (m ((c : Thread nD τ).loc main_arg0))
      ∧ r.2.mem ((c : Thread nD τ).loc main_arg0) = m ((c : Thread nD τ).loc main_arg0) :=
  (θ_run defs _ _).mono (fun _ h c => ⟨((h c).1 3).trans ((Body.dats m 0 c).arrAt_eq_of_cover 3 _ (fun t _ => flushed_eq m c t)
      (fun i => ⟨(i 0).cast N_0.symm, (by decide +kernel : ∀ t : Fin grid0.N, win0_3.flush t = true) _, mem_block3 _ i rfl⟩)),
      ((h c).1 0).trans (((Body.dats m 0 c).arrAt_in 0 rfl _).trans ((Body.A_eq m c 0).trans (V_main_arg0 m c)))⟩)
    (Body.run_main m ρ)

end Cert.KernelIdeal.Block

end
-- ==== Proof.Votes.lean ====
module

public import proofs.«01_k».proof.Proof.Block
public import Idealize.ShloMosaic.Lib.Pointwise

@[expose] public section

/-! # One pixel's votes, in real numbers -/

set_option maxRecDepth 16384

noncomputable section

namespace Cert.Hog

open Idealize.ShloMosaic

/-- The gradient's direction, -/
def angle (a b : ℝ) : ℝ :=
  if 0 < b then Real.arctan (a / b)
  else if b < 0 then (if 0 ≤ a then Real.arctan (a / b) + Real.pi else Real.arctan (a / b) - Real.pi)
  else if 0 < a then Real.pi / 2 else if a < 0 then -(Real.pi / 2) else 0

/-- The two programs' arctan2 of two real numbers is `angle`. -/
theorem atan2_coe (a b : ℝ) : Ideal.atan2 (a : EReal) (b : EReal) = (angle a b : EReal) := rfl

/-- The direction is at most π, -/
theorem angle_le (a b : ℝ) : angle a b ≤ Real.pi := by
  have p := Real.pi_pos
  have h1 := Real.arctan_lt_pi_div_two (a / b)
  unfold angle
  by_cases hb : 0 < b
  · rw [if_pos hb]; linarith
  rw [if_neg hb]
  by_cases hb' : b < 0
  · rw [if_pos hb']
    by_cases ha : 0 ≤ a
    · rw [if_pos ha]
      have : Real.arctan (a / b) ≤ 0 := Real.arctan_le_zero.mpr (div_nonpos_of_nonneg_of_nonpos ha hb'.le)
      linarith
    · rw [if_neg ha]; linarith
  rw [if_neg hb']
  by_cases ha : 0 < a
  · rw [if_pos ha]; linarith
  rw [if_neg ha]
  by_cases ha' : a < 0
  · rw [if_pos ha']; linarith
  · rw [if_neg ha']; exact p.le

/-- and at least −π. -/
theorem le_angle (a b : ℝ) : -Real.pi ≤ angle a b := by
  have p := Real.pi_pos
  have h1 := Real.neg_pi_div_two_lt_arctan (a / b)
  unfold angle
  by_cases hb : 0 < b
  · rw [if_pos hb]; linarith
  rw [if_neg hb]
  by_cases hb' : b < 0
  · rw [if_pos hb']
    by_cases ha : 0 ≤ a
    · rw [if_pos ha]; linarith
    · rw [if_neg ha]
      have : 0 ≤ Real.arctan (a / b) := Real.arctan_nonneg.mpr (div_nonneg_of_nonpos (not_le.mp ha).le hb'.le)
      linarith
  rw [if_neg hb']
  by_cases ha : 0 < a
  · rw [if_pos ha]; linarith
  rw [if_neg ha]
  by_cases ha' : a < 0
  · rw [if_pos ha']; linarith
  · rw [if_neg ha']; linarith

/-- in tenths of half a turn, -/
def turn (a b : ℝ) : ℝ := angle a b / Real.pi * 10

/-- In tenths of half a turn it is at most ten, -/
theorem turn_le (a b : ℝ) : turn a b ≤ 10 := by
  have : angle a b / Real.pi ≤ 1 := (div_le_one Real.pi_pos).mpr (angle_le a b)
  unfold turn; linarith

/-- and at least minus ten. -/
theorem le_turn (a b : ℝ) : -10 ≤ turn a b := by
  have : -1 ≤ angle a b / Real.pi := (le_div_iff₀ Real.pi_pos).mpr (by linarith [le_angle a b])
  unfold turn; linarith

/-- and its length. -/
def length (a b : ℝ) : ℝ := Real.sqrt (a * a + b * b)

/-- What a pixel of gradient `(a, b)` adds to orientation `o`: its length where the direction rounded down is `o` modulo
    ten, and one less its length where the direction rounded up is. -/
def vote (o : ℕ) (a b : ℝ) : ℝ :=
  (if ⌊turn a b⌋ % 10 = (o : ℤ) then length a b else 0) + (if ⌈turn a b⌉ % 10 = (o : ℤ) then 1 - length a b else 0)

/-- Rounded down it is at most ten, -/
theorem floor_le (a b : ℝ) : ⌊turn a b⌋ ≤ 10 := by
  have := (Int.floor_le (turn a b)).trans (turn_le a b)
  exact_mod_cast this
/-- and at least minus ten. -/
theorem le_floor (a b : ℝ) : -10 ≤ ⌊turn a b⌋ := Int.le_floor.mpr (by exact_mod_cast le_turn a b)
/-- Rounded up it is at most ten, -/
theorem ceil_le (a b : ℝ) : ⌈turn a b⌉ ≤ 10 := Int.ceil_le.mpr (by exact_mod_cast turn_le a b)
/-- and at least minus ten. -/
theorem le_ceil (a b : ℝ) : -10 ≤ ⌈turn a b⌉ := (le_floor a b).trans (Int.floor_le_ceil _)

/-- A small whole number as a word. -/
theorem word (k : ℤ) (h : -10 ≤ k) (h' : k ≤ 10) : Ideal.fptosi 32 (((k : ℝ)) : EReal) = BitVec.ofInt 32 k := by
  unfold Ideal.fptosi
  rw [Ideal.toIntClamped_coe, Int.floor_intCast, Int.ceil_intCast, ite_self]
  congr 1
  norm_num
  omega

end Cert.Hog

namespace Cert.KernelIdeal.Block

open Cert.KernelIdeal Cert.KernelIdeal.Gen Cert.Hog
open Idealize.ShloMosaic Idealize.ShloMosaic.TcCoe Idealize.ShloMosaic.Tactic

/-- The lower orientation, from the direction rounded down. -/
def lowered (w : BitVec 32) : BitVec 32 :=
  Scalar.select (IntOp.cmpi .eq (Scalar.select (IntOp.cmpi .slt w 0#32) (IntOp.addi w 10#32) w) 10#32) (0#32)
    (Scalar.select (IntOp.cmpi .slt w 0#32) (IntOp.addi w 10#32) w)

/-- It is the remainder modulo ten, -/
theorem lowered_eq (k : ℤ) (h : -10 ≤ k) (h' : k ≤ 10) (o : Fin 10) :
    IntOp.cmpi .eq (lowered (BitVec.ofInt 32 k)) (BitVec.ofNat 32 o.val) = if k % 10 = (o.val : ℤ) then 1#1 else 0#1 := by
  obtain ⟨n, rfl⟩ : ∃ n : Fin 21, k = (n.val : ℤ) - 10 := ⟨⟨(k + 10).toNat, by omega⟩, by show k = ((k + 10).toNat : ℤ) - 10; omega⟩
  revert n o
  decide +kernel

/-- and the orientation after it the next one's. -/
theorem lowered_next (k : ℤ) (h : -10 ≤ k) (h' : k ≤ 10) (o : Fin 10) :
    IntOp.cmpi .eq (lowered (BitVec.ofInt 32 k)) (BitVec.ofNat 32 ((o.val + 9) % 10)) = if (k + 1) % 10 = (o.val : ℤ) then 1#1 else 0#1 := by
  obtain ⟨n, rfl⟩ : ∃ n : Fin 21, k = (n.val : ℤ) - 10 := ⟨⟨(k + 10).toNat, by omega⟩, by show k = ((k + 10).toNat : ℤ) - 10; omega⟩
  revert n o
  decide +kernel

/-- A selection by a condition's bit is the choice by the condition. -/
theorem select_ite (c : Prop) [Decidable c] (x y : EReal) : Scalar.select (if c then 1#1 else 0#1) x y = if c then x else y := by
  by_cases h : c
  · rw [if_pos h, if_pos h]; rfl
  · rw [if_neg h, if_neg h]; rfl

/-- The word of ten is the number ten. -/
theorem ten : Ideal.ofBits .f32 0x41200000#32 = ((10 : ℝ) : EReal) := by
  simp [Ideal.ofBits, Ideal.ieee, -EReal.coe_mul]; norm_num

/-- The constant one, at any place. -/
theorem one_at (y : S64x512.Idx) : one (F := Ideal) y = ((1 : ℝ) : EReal) := by pointwise [one]; simp
/-- The constant zero, at any place. -/
theorem zero_at (y : S64x512.Idx) : zero (F := Ideal) y = ((0 : ℝ) : EReal) := by pointwise [zero]; simp

/-- The kernel's votes of a pixel of finite gradient are `vote`'s. -/
theorem votes_at (p : Vec Ideal S66x514 .f32) (o : Fin 10) (y : S64x512.Idx) (a b : ℝ) (ha : gradX p y = (a : EReal))
    (hb : gradY p y = (b : EReal)) : votes p o y = (vote o.val a b : EReal) := by
  have ht : turn p y = (Hog.turn a b : EReal) := by
    pointwise [turn]
    rw [ha, hb, atan2_coe, ten]
    show Ideal.div (angle a b : EReal) (Real.pi : EReal) * ((10 : ℝ) : EReal) = _
    rw [Ideal.div_coe Real.pi_ne_zero, ← EReal.coe_mul, ← EReal.coe_mul]
    exact congrArg _ (by unfold Hog.turn; ring)
  have hm : magnitude p y = (length a b : EReal) := by
    pointwise [magnitude]
    rw [ha, hb, ← EReal.coe_mul, ← EReal.coe_mul, ← EReal.coe_add, Ideal.sqrt_coe, if_neg (not_lt.mpr (add_nonneg (mul_self_nonneg a) (mul_self_nonneg b)))]
    rfl
  have hw : FloatOps.fptosi (F := Ideal) (φ := .f32) 32 (Ideal.liftRound Int.floor (Hog.turn a b : EReal)) = BitVec.ofInt 32 ⌊Hog.turn a b⌋ :=
    word _ (le_floor a b) (floor_le a b)
  pointwise [votes, lower, lifted, toLower, toUpper, whole]
  rw [ht, hm, hw, one_at, zero_at]
  show Scalar.select (IntOp.cmpi .eq (lowered (BitVec.ofInt 32 ⌊Hog.turn a b⌋)) (BitVec.ofNat 32 o.val)) _ _
    + Scalar.select (IntOp.cmpi .eq (lowered (BitVec.ofInt 32 ⌊Hog.turn a b⌋)) (BitVec.ofNat 32 ((o.val + 9) % 10))) _ _ = _
  rw [lowered_eq _ (le_floor a b) (floor_le a b), lowered_next _ (le_floor a b) (floor_le a b), select_ite, select_ite,
    Ideal.liftRound_coe, ← EReal.coe_sub, ← EReal.coe_add]
  simp only [EReal.coe_eq_coe_iff]
  unfold vote
  by_cases hi : Hog.turn a b = (⌊Hog.turn a b⌋ : ℝ)
  · have hc : ⌈Hog.turn a b⌉ = ⌊Hog.turn a b⌋ := by rw [hi]; simp
    rw [if_pos hi, if_pos hi, hc]
    split_ifs <;> norm_cast <;> simp
  · have hc : ⌈Hog.turn a b⌉ = ⌊Hog.turn a b⌋ + 1 := by
      refine le_antisymm (Int.ceil_le_floor_add_one _) (Int.add_one_le_iff.mpr (lt_of_le_of_ne (Int.floor_le_ceil _) fun e => hi ?_))
      exact le_antisymm (by rw [e]; exact Int.le_ceil _) (Int.floor_le _)
    rw [if_neg hi, if_neg hi, hc]
    split_ifs <;> norm_cast

end Cert.KernelIdeal.Block

end
-- ==== Proof.Means.lean ====
module

public import proofs.«01_k».proof.Proof.Arrays
public import proofs.«01_k».proof.Proof.Votes

@[expose] public section

/-! # The kernel's cells, in real numbers

From a picture of real pixels to the mean of every orientation over every cell of 8 by 8 pixels. -/

set_option maxRecDepth 16384

noncomputable section

namespace Cert.Hog

open Idealize.ShloMosaic

/-- A picture with a border of zeros, one pixel wide. -/
def bord (X : Fin 512 → Fin 512 → ℝ) (i j : ℕ) : ℝ :=
  if h : 1 ≤ i ∧ i < 513 ∧ 1 ≤ j ∧ j < 513 then X ⟨i - 1, by omega⟩ ⟨j - 1, by omega⟩ else 0

/-- The horizontal gradient at a pixel, -/
def gx (B : ℕ → ℕ → ℝ) (i j : ℕ) : ℝ :=
  B i j - B i (j + 2) + 2 * B (i + 1) j - 2 * B (i + 1) (j + 2) + B (i + 2) j - B (i + 2) (j + 2)

/-- and the vertical one. -/
def gy (B : ℕ → ℕ → ℝ) (i j : ℕ) : ℝ :=
  B i j + 2 * B i (j + 1) + B i (j + 2) - B (i + 2) j - 2 * B (i + 2) (j + 1) - B (i + 2) (j + 2)

/-- What a pixel adds to orientation `o`, -/
def pixel (B : ℕ → ℕ → ℝ) (o i j : ℕ) : ℝ := vote o (gx B i j) (gy B i j)

/-- and its mean over a cell. -/
def mean (B : ℕ → ℕ → ℝ) (o i j : ℕ) : ℝ := (∑ r : Fin 8, ∑ c : Fin 8, pixel B o (8 * i + r.val) (8 * j + c.val)) / 64

/-- The four cells of a block together, -/
def around (B : ℕ → ℕ → ℝ) (o i j : ℕ) : ℝ :=
  mean B o i j + mean B o i (j + 1) + mean B o (i + 1) j + mean B o (i + 1) (j + 1)

/-- the number that keeps the root from zero, -/
def eps : ℝ := 14411519 / 2 ^ 57

/-- and cell `q` of the block, normalized. -/
def share (B : ℕ → ℕ → ℝ) (o i j q : ℕ) : ℝ :=
  mean B o (i + q / 2) (j + q % 2) / √(around B o i j * around B o i j + eps)

/-- Both programs' word for ε² is this number. -/
theorem eps_word : Ideal.ofBits .f32 0x2EDBE6FF#32 = (eps : EReal) := by
  simp [Ideal.ofBits, Ideal.ieee, -EReal.coe_mul, eps]; norm_num

/-- What stands under the root is positive. -/
theorem part_pos (a : ℝ) : 0 < a * a + eps := by
  have : 0 < eps := by unfold eps; positivity
  nlinarith [mul_self_nonneg a]

/-- A sum of real numbers, taken among the extended reals. -/
theorem coe_sum {n : ℕ} (f : Fin n → ℝ) : ((∑ k, f k : ℝ) : EReal) = ∑ k, (f k : EReal) :=
  map_sum (⟨⟨(fun x : ℝ => (x : EReal)), EReal.coe_zero⟩, EReal.coe_add⟩ : ℝ →+ EReal) f Finset.univ

/-- A sum over a row of pixels that keeps one cell's. -/
theorem sum_cell (f : ℕ → ℝ) (j : Fin 64) :
    ∑ w : Fin 512, f w.val * (if w.val / 8 = j.val then 1 else 0) = ∑ c : Fin 8, f (8 * j.val + c.val) := by
  rw [← (finProdFinEquiv (m := 64) (n := 8)).sum_comp (fun w : Fin 512 => f w.val * (if w.val / 8 = j.val then 1 else 0)),
    Fintype.sum_prod_type, Finset.sum_eq_single j]
  · refine Finset.sum_congr rfl fun c _ => ?_
    have h : (finProdFinEquiv (j, c) : Fin (64 * 8)).val = c.val + 8 * j.val := rfl
    rw [h, if_pos (by omega), mul_one, Nat.add_comm]
  · intro i _ hi
    refine Finset.sum_eq_zero fun c _ => ?_
    have h : (finProdFinEquiv (i, c) : Fin (64 * 8)).val = c.val + 8 * i.val := rfl
    have hne : i.val ≠ j.val := fun e => hi (Fin.ext e)
    rw [h, if_neg (by omega), mul_zero]
  · exact fun h => absurd (Finset.mem_univ _) h

end Cert.Hog

namespace Cert.KernelIdeal.Block

open Cert.KernelIdeal Cert.KernelIdeal.Gen Cert.Hog
open Idealize.ShloMosaic Idealize.ShloMosaic.TcCoe Idealize.ShloMosaic.Tactic

/-- The constant two, at any place. -/
theorem two_at (y : S64x512.Idx) : two (F := Ideal) y = ((2 : ℝ) : EReal) := by
  pointwise [two]; simp [Ideal.ofBits, Ideal.ieee, -EReal.coe_mul]; try norm_num

/-- The bordered picture of real pixels is the real one, `bord`, -/
theorem bordered_real (x : Vec Ideal S1x1x512x512 .f32) (X : Fin 512 → Fin 512 → ℝ) (hx : ∀ y, x y = (X (y 2) (y 3) : EReal))
    (y : S514x514.Idx) : bordered x y = (bord X (y 0).val (y 1).val : EReal) := by
  unfold bordered bord
  by_cases h : 1 ≤ (y 0).val ∧ (y 0).val < 513 ∧ 1 ≤ (y 1).val ∧ (y 1).val < 513
  · rw [dif_pos h, dif_pos h, hx]; rfl
  · rw [dif_neg h, dif_neg h]; rfl

/-- and slab `s` holds its rows from `64 s` on. -/
theorem slab_at (P : Vec Ideal S514x514 .f32) (B : ℕ → ℕ → ℝ) (hP : ∀ y : S514x514.Idx, P y = (B (y 0).val (y 1).val : EReal)) (s : Fin 8)
    (r : Fin 66) (c : Fin 514) : slab P s (ix2 r c) = (B (64 * s.val + r.val) c.val : EReal) := by
  unfold slab
  show P _ = _
  rw [hP]
  congr 2
  · exact emb0 (slab_inb s) (ix2 r c) 0
  · exact (emb0 (slab_inb s) (ix2 r c) 1).trans (Nat.zero_add _)

/-- On a slab that begins at row `n` the kernel computes the horizontal gradient `gx`, -/
theorem gradX_at (p : Vec Ideal S66x514 .f32) (B : ℕ → ℕ → ℝ) (n : ℕ) (hp : ∀ (r : Fin 66) (c : Fin 514), p (ix2 r c) = (B (n + r.val) c.val : EReal))
    (r : Fin 64) (c : Fin 512) : gradX p (ix2 r c) = (gx B (n + r.val) c.val : EReal) := by
  pointwise [gradX]
  simp only [hp, two_at, ← EReal.coe_mul, ← EReal.coe_add, ← EReal.coe_sub]
  unfold gx
  ring_nf

/-- the vertical gradient `gy`, -/
theorem gradY_at (p : Vec Ideal S66x514 .f32) (B : ℕ → ℕ → ℝ) (n : ℕ) (hp : ∀ (r : Fin 66) (c : Fin 514), p (ix2 r c) = (B (n + r.val) c.val : EReal))
    (r : Fin 64) (c : Fin 512) : gradY p (ix2 r c) = (gy B (n + r.val) c.val : EReal) := by
  pointwise [gradY]
  simp only [hp, two_at, ← EReal.coe_mul, ← EReal.coe_add, ← EReal.coe_sub]
  unfold gy
  ring_nf

/-- and for each orientation the sums of eight rows of votes. -/
theorem rows_at (p : Vec Ideal S66x514 .f32) (B : ℕ → ℕ → ℝ) (n : ℕ) (hp : ∀ (r : Fin 66) (c : Fin 514), p (ix2 r c) = (B (n + r.val) c.val : EReal))
    (o : Fin 10) (r : Fin 8) (c : Fin 512) :
    rows p o (ix2 r c) = ((∑ k : Fin 8, pixel B o.val (n + 8 * r.val + k.val) c.val : ℝ) : EReal) := by
  pointwise [rows]
  rw [coe_sum]
  refine Finset.sum_congr rfl fun k _ => ?_
  rw [votes_at p o _ _ _ (gradX_at p B n hp _ _) (gradY_at p B n hp _ _)]
  unfold pixel
  congr 2 <;> simp only [] <;> congr 1 <;> omega

/-- A row of the histogram: the sums of eight rows of pixels. -/
theorem histogram_real (P : Vec Ideal S514x514 .f32) (B : ℕ → ℕ → ℝ) (hP : ∀ y : S514x514.Idx, P y = (B (y 0).val (y 1).val : EReal))
    (o : Fin 10) (i : Fin 64) (w : Fin 512) (h : 64 * o.val + i.val < 640) :
    histogram P (ix2 ⟨64 * o.val + i.val, h⟩ w) = ((∑ k : Fin 8, pixel B o.val (8 * i.val + k.val) w.val : ℝ) : EReal) := by
  rw [← histogram_at P _ ⟨i.val / 8, by omega⟩ o (ix2 ⟨i.val % 8, by omega⟩ w)
    (show 64 * o.val + i.val = 64 * o.val + 8 * (i.val / 8) + i.val % 8 by omega) rfl,
    rows_at _ B _ (slab_at P B hP _)]
  congr 2
  funext k
  congr 1
  show 64 * (i.val / 8) + 8 * (i.val % 8) + k.val = 8 * i.val + k.val
  omega

/-- The cells are the means. -/
theorem cells_at (P : Vec Ideal S514x514 .f32) (B : ℕ → ℕ → ℝ) (hP : ∀ y : S514x514.Idx, P y = (B (y 0).val (y 1).val : EReal))
    (o : Fin 10) (i j : Fin 64) : cells (histogram P) poolM (ix3 o i j) = (mean B o.val i.val j.val : EReal) := by
  have hh (w : Fin 512) (h : o.val * 64 + i.val < 640) := histogram_real P B hP o i w (by omega)
  simp only [Nat.mul_comm 64 o.val] at hh
  have hw : Ideal.ofBits .f32 0x3C800000#32 = ((1 / 64 : ℝ) : EReal) := by
    simp [Ideal.ofBits, Ideal.ieee, -EReal.coe_mul]; try norm_num
  have hm (w : Fin 512) : poolM (ix2 w j) = ((if w.val / 8 = j.val then 1 else 0 : ℝ) : EReal) := by
    unfold poolM
    show (if w.val / 8 = j.val then (1 : EReal) else 0) = _
    split <;> simp
  pointwise [cells]
  rw [hw]
  refine (congrArg (· * ((1 / 64 : ℝ) : EReal)) (Finset.sum_congr rfl fun w _ => (congrArg₂ (· * ·) (hh w (by omega)) (hm w)).trans
    (EReal.coe_mul _ _).symm)).trans ?_
  rw [← coe_sum, ← EReal.coe_mul, sum_cell (fun w => ∑ k : Fin 8, pixel B o.val (8 * i.val + k.val) w), Finset.sum_comm]
  unfold mean
  exact congrArg _ (div_eq_mul_one_div _ _).symm

end Cert.KernelIdeal.Block

end
-- ==== Proof.Shares.lean ====
module

public import proofs.«01_k».proof.Proof.Means

@[expose] public section

/-! # The kernel's result, in real numbers

From the means of the cells to the normalized blocks, and from there to every entry of the kernel's array. -/

set_option maxRecDepth 16384

noncomputable section

namespace Cert.KernelIdeal.Block

open Cert.KernelIdeal Cert.KernelIdeal.Gen Cert.Hog
open Idealize.ShloMosaic Idealize.ShloMosaic.TcCoe Idealize.ShloMosaic.Tactic

/-- The reals that a table of cells holds. -/
def Holds (h : Vec Ideal S10x64x64 .f32) (B : ℕ → ℕ → ℝ) : Prop :=
  ∀ (o : Fin 10) (i j : Fin 64), h (ix3 o i j) = (mean B o.val i.val j.val : EReal)

/-- Corner `q` of a block is the mean of the cell `q / 2` down and `q % 2` right. -/
theorem corner_at (h : Vec Ideal S10x64x64 .f32) (B : ℕ → ℕ → ℝ) (hh : Holds h B) (q : Fin 4) (o : Fin 10) (i j : Fin 63) :
    corner (F := Ideal) h q (ix3 o i j) = (mean B o.val (i.val + q.val / 2) (j.val + q.val % 2) : EReal) := by
  match q with
  | 0 => pointwise [corner]; exact (hh _ _ _).trans (by simp)
  | 1 => pointwise [corner]; exact (hh _ _ _).trans (by simp [Nat.add_comm])
  | 2 => pointwise [corner]; exact (hh _ _ _).trans (by simp [Nat.add_comm])
  | 3 => pointwise [corner]; exact (hh _ _ _).trans (by simp [Nat.add_comm])

/-- The block's factor is one over the root of its squared sum and ε². -/
theorem factor_at (h : Vec Ideal S10x64x64 .f32) (B : ℕ → ℕ → ℝ) (hh : Holds h B) (o : Fin 10) (i j : Fin 63) :
    factor (F := Ideal) h (ix3 o i j) = ((1 / √(around B o.val i.val j.val * around B o.val i.val j.val + eps) : ℝ) : EReal) := by
  have hb : blockSum (F := Ideal) h (ix3 o i j) = (around B o.val i.val j.val : EReal) := by
    pointwise [blockSum]
    rw [corner_at h B hh, corner_at h B hh, corner_at h B hh, corner_at h B hh, ← EReal.coe_add, ← EReal.coe_add, ← EReal.coe_add]
    rfl
  have hp := part_pos (around B o.val i.val j.val)
  pointwise [factor]
  rw [hb, eps_word, ← EReal.coe_mul, ← EReal.coe_add, Ideal.sqrt_coe, if_neg (not_lt.mpr hp.le), Ideal.div_coe (Real.sqrt_ne_zero'.mpr hp)]
  exact one_mul _

/-- A normalized corner is the cell's share of the block. -/
theorem normal_at (h : Vec Ideal S10x64x64 .f32) (B : ℕ → ℕ → ℝ) (hh : Holds h B) (q : Fin 4) (o : Fin 10) (i j : Fin 63) :
    normal (F := Ideal) h q (ix3 o i j) = (share B o.val i.val j.val q.val : EReal) := by
  pointwise [normal]
  rw [corner_at h B hh, factor_at h B hh, ← EReal.coe_mul]
  exact congrArg _ (div_eq_mul_one_div _ _).symm

/-- Its first part is all of it, -/
theorem high_at (h : Vec Ideal S10x64x64 .f32) (B : ℕ → ℕ → ℝ) (hh : Holds h B) (q : Fin 4) (o : Fin 10) (i j : Fin 63) :
    high (F := Ideal) h q (ix3 o i j) = (share B o.val i.val j.val q.val : EReal) := by
  pointwise [high]
  exact normal_at h B hh q o i j

/-- and its second part is zero. -/
theorem low_at (h : Vec Ideal S10x64x64 .f32) (B : ℕ → ℕ → ℝ) (hh : Holds h B) (q : Fin 4) (o : Fin 10) (i j : Fin 63) :
    low (F := Ideal) h q (ix3 o i j) = ((0 : ℝ) : EReal) := by
  pointwise [low]
  rw [normal_at h B hh, high_at h B hh, ← EReal.coe_sub, sub_self]

/-- Spreading matrix `q` is one where the column is four times the row and `q`, and zero elsewhere. -/
theorem spread_real (q : Fin 4) (k : Fin 63) (c : Fin 252) :
    spread (F := Ideal) spreadM q (ix2 k c) = ((if c.val = 4 * k.val + q.val then 1 else 0 : ℝ) : EReal) := by
  have e (L : FVec Ideal S1x63x252 .f32) : shapeCast S63x252 L shapeCasts_S1x63x252_S63x252 (ix2 k c) = L (ix3 0 k c) := by
    pointwise []
  unfold spread
  refine (e _).trans ?_
  have at0 : ∀ a : Fin 3, ((Rect.unit (s := S4x63x252) ![q.val, 0, 0] S1x63x252.size (spread_inb q)).emb (ix3 0 k c) a).val
      = ![q.val, 0, 0] a + (ix3 (0 : Fin 1) k c a).val :=
    ValueKit.rect_emb_unit_val (s := S4x63x252) _ _ _ _
  have e0 := at0 0
  have e1 := at0 1
  have e2 := at0 2
  show (if ((Rect.unit (s := S4x63x252) ![q.val, 0, 0] S1x63x252.size (spread_inb q)).emb (ix3 0 k c) 2).val
      = 4 * ((Rect.unit (s := S4x63x252) ![q.val, 0, 0] S1x63x252.size (spread_inb q)).emb (ix3 0 k c) 1).val
        + ((Rect.unit (s := S4x63x252) ![q.val, 0, 0] S1x63x252.size (spread_inb q)).emb (ix3 0 k c) 0).val then (1 : EReal) else 0) = _
  rw [e0, e1, e2]
  show (if 0 + c.val = 4 * (0 + k.val) + (q.val + 0) then (1 : EReal) else 0) = _
  simp only [Nat.zero_add, Nat.add_zero]
  split <;> simp

/-- One product puts the real numbers `f` at every fourth column. -/
theorem placed_at (y : Vec Ideal S10x63x63 .f32) (o : Fin 10) (i : Fin 63) (f : ℕ → ℝ) (hy : ∀ j : Fin 63, y (ix3 o i j) = (f j.val : EReal))
    (q : Fin 4) (c : Fin 252) :
    placed y spreadM o q (ix2 i c) = ((if c.val % 4 = q.val then f (c.val / 4) else 0 : ℝ) : EReal) := by
  have hs (k : Fin 63) := spread_real q k c
  have hp (k : Fin 63) : plane (F := Ideal) y o (ix2 i k) = (f k.val : EReal) := by
    pointwise [plane]
    exact hy k
  pointwise [placed]
  simp only [hs, hp, ← EReal.coe_mul]
  rw [← coe_sum]
  congr 1
  by_cases h : c.val % 4 = q.val
  · rw [if_pos h, Finset.sum_eq_single ⟨c.val / 4, by omega⟩]
    · rw [if_pos (show c.val = 4 * (c.val / 4) + q.val by omega), mul_one]
    · intro k _ hk
      have : k.val ≠ c.val / 4 := fun e => hk (Fin.ext e)
      rw [if_neg (by omega), mul_zero]
    · exact fun h => absurd (Finset.mem_univ _) h
  · rw [if_neg h]
    refine Finset.sum_eq_zero fun k _ => ?_
    rw [if_neg (by omega), mul_zero]

/-- An entry of the output's plane. -/
theorem outPlane_at (h : Vec Ideal S10x64x64 .f32) (B : ℕ → ℕ → ℝ) (hh : Holds h B) (o : Fin 10) (i : Fin 63) (c : Fin 252) :
    outPlane h spreadM o (ix4 0 0 i c) = (share B o.val i.val (c.val / 4) (c.val % 4) : EReal) := by
  have hy (q : Fin 4) := placed_at (high (F := Ideal) h q) o i (fun j => share B o.val i.val j q.val) (fun j => high_at h B hh q o i j) q c
  have hl (q : Fin 4) := placed_at (low (F := Ideal) h q) o i (fun _ => 0) (fun j => low_at h B hh q o i j) q c
  pointwise [outPlane]
  simp only [hy, hl, ← EReal.coe_add]
  have hc : c.val % 4 < 4 := Nat.mod_lt _ (by norm_num)
  congr 1
  interval_cases c.val % 4 <;> simp

/-- An entry of the kernel's array, where the pixels are real. -/
theorem result_at (x : Vec Ideal S16x1x512x512 .f32) (X : Fin 16 → Fin 512 → Fin 512 → ℝ)
    (hx : ∀ (n : Fin 16) (i j : Fin 512), x (ix4 n 0 i j) = (X n i j : EReal)) (n : Fin 16) (o : Fin 10) (i : Fin 63) (c : Fin 252) :
    result x (ix4 n o i c) = (share (bord (X n)) o.val i.val (c.val / 4) (c.val % 4) : EReal) := by
  refine outPlane_at _ (bord (X n)) (fun o i j => cells_at _ _ (bordered_real _ (X n) fun y => ?_) o i j) o i c
  exact hx n (y 2) (y 3)

end Cert.KernelIdeal.Block

end
-- ==== Proof.Pixels.lean ====
module

public import proofs.«01_k».proof.Proof.Means
public import proofs.«01_k».proof.Proof.Gen.ReferenceIdeal.Run

@[expose] public section

/-! # The reference's pixels, in real numbers

The reference's gradients, lengths, directions and votes of a picture of real pixels, read at one pixel. -/

set_option maxRecDepth 16384

noncomputable section

namespace Cert.ReferenceIdeal.Value

open Cert.ReferenceIdeal Cert.ReferenceIdeal.Gen Cert.Hog
open Idealize.ShloMosaic Idealize.ShloMosaic.TcCoe Idealize.ShloMosaic.Tactic

variable (V : Valuation τ sig (Elt Ideal))

/-- The input's pixels are the real numbers `X`. -/
def Shows (X : Fin 16 → Fin 512 → Fin 512 → ℝ) : Prop :=
  ∀ (n : Fin 16) (i j : Fin 512), (V (Proc.devRef .tc main_arg0) : Vec Ideal S16x1x512x512 .f32) (ix4 n 0 i j) = (X n i j : EReal)

variable {V} {X : Fin 16 → Fin 512 → Fin 512 → ℝ}

/-- The word of −1 is the number −1. -/
theorem minus_one : Ideal.ofBits .f32 0xBF800000#32 = ((-1 : ℝ) : EReal) := by
  simp [Ideal.ofBits, Ideal.ieee, -EReal.coe_mul]; norm_num
/-- The word of −2 is the number −2. -/
theorem minus_two : Ideal.ofBits .f32 0xC0000000#32 = ((-2 : ℝ) : EReal) := by
  simp [Ideal.ofBits, Ideal.ieee, -EReal.coe_mul]; norm_num
/-- The word of 2 is the number 2. -/
theorem plus_two : Ideal.ofBits .f32 0x40000000#32 = ((2 : ℝ) : EReal) := by
  simp [Ideal.ofBits, Ideal.ieee, -EReal.coe_mul]; norm_num

/-- The reference's padded picture is the bordered one. -/
theorem padded_at (h : Shows V X) (n : Fin 16) (i j : Fin 514) :
    res_main_v1 (F := Ideal) V (ix3 n i j) = (bord (X n) i.val j.val : EReal) := by
  pointwise [res_main_v1]
  unfold bord
  by_cases hij : 1 ≤ i.val ∧ i.val < 513 ∧ 1 ≤ j.val ∧ j.val < 513
  · rw [dif_pos hij, dif_pos (by omega)]
    exact h _ _ _
  · rw [dif_neg hij, dif_neg (by omega)]
    exact congrArg (fun r : ℝ => (r : EReal)) (Int.cast_zero (R := ℝ))

/-- Its sum with the first filter is the horizontal gradient, -/
theorem gx_at (h : Shows V X) (n : Fin 16) (i j : Fin 512) :
    res_main_v38 (F := Ideal) V (ix3 n i j) = (gx (bord (X n)) i.val j.val : EReal) := by
  pointwise [res_main_v38]
  simp only [padded_at h, minus_one, minus_two, plus_two, zero_mul, add_zero, ← EReal.coe_mul, ← EReal.coe_add]
  unfold gx
  ring_nf

/-- that with the second the vertical gradient, -/
theorem gy_at (h : Shows V X) (n : Fin 16) (i j : Fin 512) :
    res_main_v75 (F := Ideal) V (ix3 n i j) = (gy (bord (X n)) i.val j.val : EReal) := by
  pointwise [res_main_v75]
  simp only [padded_at h, minus_one, minus_two, plus_two, zero_mul, add_zero, ← EReal.coe_mul, ← EReal.coe_add]
  unfold gy
  ring_nf

/-- and the root of their squares' sum the gradient's length. -/
theorem length_at (h : Shows V X) (n : Fin 16) (i j : Fin 512) :
    res_main_v79 (F := Ideal) V (ix3 n i j) = (length (gx (bord (X n)) i.val j.val) (gy (bord (X n)) i.val j.val) : EReal) := by
  pointwise [res_main_v79]
  rw [gx_at h, gy_at h, ← EReal.coe_mul, ← EReal.coe_mul, ← EReal.coe_add, Ideal.sqrt_coe,
    if_neg (not_lt.mpr (add_nonneg (mul_self_nonneg _) (mul_self_nonneg _)))]
  rfl

/-- Half a turn, as the reference has it. -/
theorem half_turn : Ideal.atan2 0 (Ideal.ofBits .f32 0xBF800000#32) = (Real.pi : EReal) := by
  rw [minus_one]
  refine (atan2_coe 0 (-1)).trans (congrArg _ ?_)
  unfold angle
  rw [if_neg (by norm_num), if_pos (by norm_num), if_pos le_rfl, zero_div, Real.arctan_zero, zero_add]

/-- Its `phase_int` is the direction in tenths of half a turn. -/
theorem turn_at (h : Shows V X) (n : Fin 16) (i j : Fin 512) :
    res_main_v85 (F := Ideal) V (ix3 n i j) = (turn (gx (bord (X n)) i.val j.val) (gy (bord (X n)) i.val j.val) : EReal) := by
  pointwise [res_main_v85]
  rw [half_turn, gx_at h, gy_at h, atan2_coe, KernelIdeal.Block.ten, Ideal.div_coe Real.pi_ne_zero, ← EReal.coe_mul, ← EReal.coe_mul]
  exact congrArg _ (by unfold Hog.turn; ring)

/-- The remainder modulo ten of a word, as the reference takes it. -/
def wrapped (w : BitVec 32) : BitVec 32 :=
  Scalar.select (IntOp.andi (IntOp.cmpi .ne (IntOp.cmpi .slt (IntOp.remsi .host w 10#32) 0#32) (IntOp.cmpi .slt 10#32 0#32))
    (IntOp.cmpi .ne (IntOp.remsi .host w 10#32) 0#32)) (IntOp.addi (IntOp.remsi .host w 10#32) 10#32) (IntOp.remsi .host w 10#32)

/-- It is the remainder of the whole number. -/
theorem wrapped_eq (k : ℤ) (h : -10 ≤ k) (h' : k ≤ 10) (o : Fin 10) :
    IntOp.cmpi .eq (wrapped (BitVec.ofInt 32 k)) (BitVec.ofNat 32 o.val) = if k % 10 = (o.val : ℤ) then 1#1 else 0#1 := by
  obtain ⟨n, rfl⟩ : ∃ n : Fin 21, k = (n.val : ℤ) - 10 := ⟨⟨(k + 10).toNat, by omega⟩, by show k = ((k + 10).toNat : ℤ) - 10; omega⟩
  revert n o
  decide +kernel

/-- The remainders modulo `d` from the machine's, `r`. -/
def modulo (r : IVec S16x512x512 32) (d : IVec S_ 32) : IVec S16x512x512 32 :=
  select (andi (cmpi .ne (cmpi .slt r (broadcastInDim S16x512x512 ![] bcast_S_S16x512x512 (constantI S_ 32 0#32)))
    (broadcastInDim S16x512x512 ![] bcast_S_S16x512x512 (cmpi .slt d (constantI S_ 32 0#32))))
    (cmpi .ne r (broadcastInDim S16x512x512 ![] bcast_S_S16x512x512 (constantI S_ 32 0#32))))
    (addi r (broadcastInDim S16x512x512 ![] bcast_S_S16x512x512 d)) r

/-- Where the remainder `r` is that of a word by ten, the corrected one is `wrapped` of the word. -/
theorem modulo_at (r : IVec S16x512x512 32) (d : IVec S_ 32) (y : S16x512x512.Idx) (w : BitVec 32)
    (hr : r y = IntOp.remsi .host w 10#32) (hd : d ix0 = 10#32) : modulo r d y = wrapped w := by
  pointwise [modulo]
  rw [hr, hd]
  rfl

/-- The orientation below the direction, -/
theorem below_at (h : Shows V X) (n : Fin 16) (i j : Fin 512) :
    modulo (res_main_call1_v4 V) (res_main_call1_v2 V) (ix3 n i j)
      = wrapped (BitVec.ofInt 32 ⌊turn (gx (bord (X n)) i.val j.val) (gy (bord (X n)) i.val j.val)⌋) := by
  refine modulo_at _ _ _ _ ?_ rfl
  pointwise [res_main_call1_v4]
  rw [turn_at h, Ideal.liftRound_coe]
  exact congrArg (IntOp.remsi .host · 10#32) (word _ (le_floor _ _) (floor_le _ _))

/-- and the one above it. -/
theorem above_at (h : Shows V X) (n : Fin 16) (i j : Fin 512) :
    modulo (res_main_call2_v4 V) (res_main_call2_v2 V) (ix3 n i j)
      = wrapped (BitVec.ofInt 32 ⌈turn (gx (bord (X n)) i.val j.val) (gy (bord (X n)) i.val j.val)⌉) := by
  refine modulo_at _ _ _ _ ?_ rfl
  pointwise [res_main_call2_v4]
  rw [turn_at h, Ideal.liftRound_coe]
  exact congrArg (IntOp.remsi .host · 10#32) (word _ (le_ceil _ _) (ceil_le _ _))

variable (V) in
/-- Every pixel's votes for every orientation. -/
def ballots : FVec Ideal S16x10x512x512 .f32 :=
  addf
    (select (cmpi .eq (broadcastInDim S16x10x512x512 ![0, 1, 2, 3] bcast_S16x1x512x512_S16x10x512x512_0_1_2_3
        (broadcastInDim S16x1x512x512 ![0, 2, 3] bcast_S16x512x512_S16x1x512x512_0_2_3 (modulo (res_main_call1_v4 V) (res_main_call1_v2 V))))
        (broadcastInDim S16x10x512x512 ![0, 1, 2, 3] bcast_S1x10x1x1_S16x10x512x512_0_1_2_3 (res_main_v93 V)))
      (broadcastInDim S16x10x512x512 ![0, 1, 2, 3] bcast_S16x1x512x512_S16x10x512x512_0_1_2_3
        (broadcastInDim S16x1x512x512 ![0, 2, 3] bcast_S16x512x512_S16x1x512x512_0_2_3 (res_main_v79 V)))
      (broadcastInDim S16x10x512x512 ![] bcast_S_S16x10x512x512 (id (constant S_ .f32 0x00000000#32))))
    (select (cmpi .eq (broadcastInDim S16x10x512x512 ![0, 1, 2, 3] bcast_S16x1x512x512_S16x10x512x512_0_1_2_3
        (broadcastInDim S16x1x512x512 ![0, 2, 3] bcast_S16x512x512_S16x1x512x512_0_2_3 (modulo (res_main_call2_v4 V) (res_main_call2_v2 V))))
        (broadcastInDim S16x10x512x512 ![0, 1, 2, 3] bcast_S1x10x1x1_S16x10x512x512_0_1_2_3 (res_main_v93 V)))
      (broadcastInDim S16x10x512x512 ![0, 1, 2, 3] bcast_S16x1x512x512_S16x10x512x512_0_1_2_3
        (subf (broadcastInDim S16x1x512x512 ![] bcast_S_S16x1x512x512 (constant S_ .f32 0x3F800000#32))
          (broadcastInDim S16x1x512x512 ![0, 2, 3] bcast_S16x512x512_S16x1x512x512_0_2_3 (res_main_v79 V))))
      (broadcastInDim S16x10x512x512 ![] bcast_S_S16x10x512x512 (id (constant S_ .f32 0x00000000#32))))

/-- A pixel's vote. -/
theorem ballots_at (h : Shows V X) (n : Fin 16) (o : Fin 10) (i j : Fin 512) :
    ballots V (ix4 n o i j) = (pixel (bord (X n)) o.val i.val j.val : EReal) := by
  pointwise [ballots, res_main_v93]
  have z : id (constant (F := Ideal) S_ .f32 0x00000000#32) ix0 = ((0 : ℝ) : EReal) := by
    show Ideal.ofBits .f32 0x00000000#32 = _
    simp
  rw [below_at h, above_at h, wrapped_eq _ (le_floor _ _) (floor_le _ _), wrapped_eq _ (le_ceil _ _) (ceil_le _ _), length_at h, z,
    show (1 : EReal) = ((1 : ℝ) : EReal) from rfl, ← EReal.coe_sub, KernelIdeal.Block.select_ite, KernelIdeal.Block.select_ite]
  unfold pixel vote
  split_ifs <;> norm_cast

end Cert.ReferenceIdeal.Value

end
-- ==== Proof.Cells.lean ====
module

public import proofs.«01_k».proof.Proof.Pixels

@[expose] public section

/-! # The reference's result, in real numbers

The mean of the votes over every cell, the blocks of cells and their normalized shares, as the reference takes them. -/

set_option maxRecDepth 16384

noncomputable section

namespace Cert.ReferenceIdeal.Value

open Cert.ReferenceIdeal Cert.ReferenceIdeal.Gen Cert.Hog
open Idealize.ShloMosaic Idealize.ShloMosaic.TcCoe Idealize.ShloMosaic.Tactic

variable {V : Valuation τ sig (Elt Ideal)} {X : Fin 16 → Fin 512 → Fin 512 → ℝ}

/-- The host's sum over the fourth and the sixth axis. -/
theorem pooled (v : FVec Ideal S16x10x64x8x64x8 .f32) (n : Fin 16) (o : Fin 10) (i j : Fin 64) :
    Ideal.hostReduceAdd reducesTo_S16x10x64x8x64x8_S16x10x64x64_d3_5 v 0 (ix4 n o i j) = ∑ r : Fin 8, ∑ c : Fin 8, v (ix6 n o i r j c) := by
  have back (x : S16x10x64x8x64x8.Idx) (hx : x ∈ Finset.univ.filter fun x => reducesTo_S16x10x64x8x64x8_S16x10x64x64_d3_5.drop x = ix4 n o i j) :
      ix6 n o i (x 3) j (x 5) = x := by
    have e := (Finset.mem_filter.mp hx).2
    have e0 : (x 0).val = n.val := congrArg Fin.val (congrFun e 0)
    have e1 : (x 1).val = o.val := congrArg Fin.val (congrFun e 1)
    have e2 : (x 2).val = i.val := congrArg Fin.val (congrFun e 2)
    have e4 : (x 4).val = j.val := congrArg Fin.val (congrFun e 3)
    funext a
    fin_cases a
    · exact Fin.ext e0.symm
    · exact Fin.ext e1.symm
    · exact Fin.ext e2.symm
    · rfl
    · exact Fin.ext e4.symm
    · rfl
  unfold Ideal.hostReduceAdd
  rw [zero_add, ← Fintype.sum_prod_type' (fun (r c : Fin 8) => v (ix6 n o i r j c))]
  refine Finset.sum_bij' (fun x _ => ((x 3 : Fin 8), (x 5 : Fin 8))) (fun p _ => ix6 n o i p.1 j p.2) ?_ ?_ back ?_ ?_
  · exact fun _ _ => Finset.mem_univ _
  · intro p _
    refine Finset.mem_filter.mpr ⟨Finset.mem_univ _, ?_⟩
    funext a
    fin_cases a <;> rfl
  · exact fun _ _ => rfl
  · exact fun x hx => congrArg v (back x hx).symm

/-- A cell's mean. -/
theorem mean_at (h : Shows V X) (n : Fin 16) (o : Fin 10) (i j : Fin 64) :
    res_main_v112 (F := Ideal) V (ix4 n o i j) = (mean (bord (X n)) o.val i.val j.val : EReal) := by
  have e : res_main_v112 (F := Ideal) V = Host.divf (Host.reduceAdd (shapeCast _ (ballots V) shapeCasts_S16x10x512x512_S16x10x64x8x64x8)
      (constant S_ .f32 0x00000000#32) reducesTo_S16x10x64x8x64x8_S16x10x64x64_d3_5 h_S_)
      (broadcastInDim S16x10x64x64 ![] bcast_S_S16x10x64x64 (constant S_ .f32 0x42800000#32)) := rfl
  have c (b : FVec Ideal S16x10x512x512 .f32) (r c : Fin 8) (hr : 8 * i.val + r.val < 512) (hc : 8 * j.val + c.val < 512) :
      shapeCast S16x10x64x8x64x8 b shapeCasts_S16x10x512x512_S16x10x64x8x64x8 (ix6 n o i r j c)
        = b (ix4 n o ⟨8 * i.val + r.val, hr⟩ ⟨8 * j.val + c.val, hc⟩) := by
    pointwise []
    congr 1
    congr 1 <;> simp only [Fin.mk.injEq] <;> omega
  have w : Ideal.ofBits .f32 0x42800000#32 = ((64 : ℝ) : EReal) := by
    simp [Ideal.ofBits, Ideal.ieee, -EReal.coe_mul]; norm_num
  rw [e]
  generalize hb : ballots V = b
  pointwise []
  have s (r k : Fin 8) := (c b r k (by omega) (by omega)).trans ((congrFun hb _).symm.trans (ballots_at h n o _ _))
  rw [pooled, w]
  simp only [s]
  simp only [← coe_sum]
  rw [Ideal.div_coe (by norm_num), ← EReal.coe_mul]
  exact congrArg _ (div_eq_mul_one_div _ _).symm

/-- The reference's stacked slice `q` holds the mean of the cell `q / 2` down and `q % 2` right, -/
theorem corner_at (h : Shows V X) (n : Fin 16) (o : Fin 10) (i j : Fin 63) (q : Fin 4) :
    res_main_v121 (F := Ideal) V (ix5 n o i j q) = (mean (bord (X n)) o.val (i.val + q.val / 2) (j.val + q.val % 2) : EReal) := by
  pointwise [res_main_v121]
  fin_cases q <;> simp [mean_at h, Nat.add_comm]

/-- and its sum over the slices is the block's sum. -/
theorem around_at (h : Shows V X) (n : Fin 16) (o : Fin 10) (i j : Fin 63) :
    res_main_v122 (F := Ideal) V (ix4 n o i j) = (around (bord (X n)) o.val i.val j.val : EReal) := by
  pointwise [res_main_v122]
  simp only [corner_at h]
  rw [Fin.sum_univ_four, ← EReal.coe_add, ← EReal.coe_add, ← EReal.coe_add]
  rfl

variable (V) in
/-- The result, named. -/
def answer : FVec Ideal S16x10x63x252 .f32 :=
  shapeCast _ (Host.divf (res_main_v121 V) (broadcastInDim S16x10x63x63x4 ![0, 1, 2, 3, 4] bcast_S16x10x63x63x1_S16x10x63x63x4_0_1_2_3_4
    (broadcastInDim S16x10x63x63x1 ![0, 1, 2, 3] bcast_S16x10x63x63_S16x10x63x63x1_0_1_2_3 (Host.sqrt (addf (mulf (res_main_v122 V) (res_main_v122 V))
      (broadcastInDim S16x10x63x63 ![] bcast_S_S16x10x63x63 (constant S_ .f32 0x2EDBE6FF#32))))))) shapeCasts_S16x10x63x63x4_S16x10x63x252

/-- Column `c` of its result is the share of cell `c % 4` of block `c / 4`. -/
theorem answer_at (h : Shows V X) (n : Fin 16) (o : Fin 10) (i : Fin 63) (c : Fin 252) :
    answer V (ix4 n o i c) = (share (bord (X n)) o.val i.val (c.val / 4) (c.val % 4) : EReal) := by
  have hp := part_pos (around (bord (X n)) o.val i.val (c.val / 4))
  pointwise [answer]
  rw [corner_at h, around_at h, eps_word, ← EReal.coe_mul, ← EReal.coe_add, Ideal.sqrt_coe, if_neg (not_lt.mpr hp.le),
    Ideal.div_coe (Real.sqrt_ne_zero'.mpr hp), ← EReal.coe_mul]
  exact congrArg _ (div_eq_mul_one_div _ _).symm

end Cert.ReferenceIdeal.Value

end
-- ==== Proof.Equation.lean ====
module

public import proofs.«01_k».proof.Proof.Shares
public import proofs.«01_k».proof.Proof.Cells
public import proofs.«01_k».proof.Proof.Gen.Pre_finite

@[expose] public section

/-! # The equation

On finite pixels the kernel's array is the reference's: both hold, at every index, the same real number. -/

noncomputable section

namespace Cert.Equation

open Cert.Hog Idealize.ShloMosaic Idealize.ShloMosaic.TcCoe Idealize.ShloMosaic.Tactic

/-- The precondition makes every pixel real. -/
theorem pixels_real (x : FVec Ideal Cert.Pre_finite.S16x1x512x512 .f32) (h : Cert.Pre_finite.fn (F := Ideal) x = fun _ => 1#1)
    (y : Cert.Pre_finite.S16x1x512x512.Idx) : x y = ((x y).toReal : EReal) := by
  have hy := congrFun h y
  unfold Cert.Pre_finite.fn at hy
  pointwise [] at hy
  have top : Ideal.ofBits .f32 0x7F800000#32 = (⊤ : EReal) := by simp [Ideal.ofBits, Ideal.ieee]
  rw [top] at hy
  have lt : max (x y : EReal) (-(x y : EReal)) < ⊤ := by
    by_contra hn
    rw [show decide (FloatOps.absf (x y) < (⊤ : EReal)) = false from decide_eq_false hn] at hy
    exact absurd hy (by decide)
  refine (EReal.coe_toReal (fun e => ?_) fun e => ?_).symm
  · exact absurd ((le_max_left _ _).trans_lt lt) (by rw [e]; exact lt_irrefl _)
  · exact absurd ((le_max_right _ _).trans_lt lt) (by rw [e, EReal.neg_bot]; exact lt_irrefl _)

/-- The two arrays are equal. -/
theorem result_eq (x : Vec Ideal Cert.KernelIdeal.S16x1x512x512 .f32) (V : Valuation Cert.ReferenceIdeal.τ Cert.ReferenceIdeal.sig (Elt Ideal))
    (hV : V (Proc.devRef .tc Cert.ReferenceIdeal.main_arg0) = x) (h : Cert.Pre_finite.fn (F := Ideal) x = fun _ => 1#1) :
    Cert.KernelIdeal.Block.result x = Cert.ReferenceIdeal.Value.answer V := by
  have hx (n : Fin 16) (i j : Fin 512) : x (ix4 n 0 i j) = ((x (ix4 n 0 i j)).toReal : EReal) := pixels_real x h _
  have hs : Cert.ReferenceIdeal.Value.Shows V fun n i j => (x (ix4 n 0 i j)).toReal := fun n i j => by
    rw [hV]
    exact hx n i j
  funext y
  have e : y = ix4 (y 0) (y 1) (y 2) (y 3) := by
    funext a
    fin_cases a <;> rfl
  rw [e]
  exact (Cert.KernelIdeal.Block.result_at x _ hx _ _ _ _).trans (Cert.ReferenceIdeal.Value.answer_at hs _ _ _ _).symm

end Cert.Equation

end
-- ==== Proof.lean ====
module

public import proofs.«01_k».proof.Defs
public import proofs.«01_k».proof.Proof.KernelBody
public import proofs.«01_k».proof.Proof.IdealBody
public import proofs.«01_k».proof.Proof.Equation
public import proofs.«01_k».proof.Proof.Gen.ReferenceIdeal.Run
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem

/-- The one rewriting of the ideal pass: π named. -/
theorem preserves : Cert.preserves_Kernel_KernelIdeal :=
  IdealRules.named_const.statement Cert.KernelIdeal.κ "pi" .f32 0x40490FDB#32 ((Real.pi : ℝ) : EReal) rfl

/-- The kernel runs, its argument kept and every counter back at zero; -/
theorem frame_kernel : Cert.quiescent_Kernel := fun m ρ _ => Cert.Kernel.Body.frame m ρ
/-- so does the kernel over exact arithmetic, -/
theorem frame_ideal : Cert.quiescent_KernelIdeal := fun m ρ _ => Cert.KernelIdeal.Body.frame m ρ
/-- with the precondition that the pixels are finite too, -/
theorem frame_ideal_finite : Cert.quiescent_KernelIdeal_pre_finite := fun m ρ _ => Cert.KernelIdeal.Body.frame m ρ
/-- and the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The reference does so with the precondition too. -/
theorem frame_reference_finite : Cert.quiescent_ReferenceIdeal_pre_finite := fun m ρ _ => frame_reference m ρ trivial

/-- On finite pixels the kernel and the reference end with equal results. -/
theorem algebraic : Cert.algebraic_KernelIdeal_ReferenceIdeal_pre_finite := by
  intro m ρ m' ρ' hpre hagree
  refine ⟨_, Cert.KernelIdeal.Block.run m ρ, ?_⟩
  refine (θ_run Cert.ReferenceIdeal.defs _ _).mono (fun _ h c => ⟨(h c).1.trans ?_, (h c).2⟩) (Cert.ReferenceIdeal.Value.run (F := Ideal) m' ρ')
  exact (Cert.Equation.result_eq _ _ (hagree c) (hpre c)).symm

/-- Every claim together. -/
theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, preserves, algebraic⟩

end Cert.Proof

end
